-- ==== Defs.lean ====
def Pre_Kernel [hPre_sizes_fill : Cert.Pre_sizes_fill.Facts] (m : (ℓ : Loc Cert.Kernel.nD Cert.Kernel.τ Cert.Kernel.sig) → Buf (Elt Bits) ℓ) : Prop :=
  ∀ c : Dev Cert.Kernel.nD,
    (Cert.Pre_sizes_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_fill : Cert.Pre_sizes_fill.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sizes_fill_and_finite [hPre_sizes_fill_and_finite : Cert.Pre_sizes_fill_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sizes_fill_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fill_and_finite [hPre_sizes_fill_and_finite : Cert.Pre_sizes_fill_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fill_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sizes_fill_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_sizes_fill : Cert.Pre_sizes_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_fill : Cert.Pre_sizes_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sizes_fill_and_finite [hKernelIdeal : Cert.KernelIdeal.Facts] [hPre_sizes_fill_and_finite : Cert.Pre_sizes_fill_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_fill_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_fill_and_finite [hReferenceIdeal : Cert.ReferenceIdeal.Facts] [hPre_sizes_fill_and_finite : Cert.Pre_sizes_fill_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fill_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sizes_fill_and_finite [hKernelIdeal : Cert.KernelIdeal.Facts] [hReferenceIdeal : Cert.ReferenceIdeal.Facts] [hPre_sizes_fill_and_finite : Cert.Pre_sizes_fill_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_fill_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_fill : Cert.Pre_sizes_fill.Facts) (hPre_sizes_fill_and_finite : Cert.Pre_sizes_fill_and_finite.Facts),
    quiescent_Kernel (hKernel := hKernel) (hPre_sizes_fill := hPre_sizes_fill)
    ∧ quiescent_KernelIdeal (hKernelIdeal := hKernelIdeal) (hPre_sizes_fill := hPre_sizes_fill)
    ∧ quiescent_KernelIdeal_pre_sizes_fill_and_finite (hKernelIdeal := hKernelIdeal) (hPre_sizes_fill_and_finite := hPre_sizes_fill_and_finite)
    ∧ quiescent_ReferenceIdeal (hReferenceIdeal := hReferenceIdeal)
    ∧ quiescent_ReferenceIdeal_pre_sizes_fill_and_finite (hReferenceIdeal := hReferenceIdeal) (hPre_sizes_fill_and_finite := hPre_sizes_fill_and_finite)
    ∧ preserves_Kernel_KernelIdeal
    ∧ algebraic_KernelIdeal_ReferenceIdeal_pre_sizes_fill_and_finite (hKernelIdeal := hKernelIdeal) (hReferenceIdeal := hReferenceIdeal) (hPre_sizes_fill_and_finite := hPre_sizes_fill_and_finite)
-- ==== Pre_sizes_fill.lean ====
abbrev S32768x1536 : Shape := ⟨2, ![32768, 1536]⟩
abbrev S16 : Shape := ⟨1, ![16]⟩
abbrev S16x7168x1536 : Shape := ⟨3, ![16, 7168, 1536]⟩
abbrev S16x7168 : Shape := ⟨2, ![16, 7168]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x1536 .bf16) (main_arg1 : IVec S16 32) (main_arg2 : FVec F S16x7168x1536 .fp8e4m3) (main_arg3 : FVec F S16x7168 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 32768#32
  let main_v6 : IVec S_ 1 := cmpi .eq main_v5 main_c_2
  let main_v7 : IVec S16 1 := broadcastInDim S16 ![] bcast_S_S16 main_v6
  let main_v8 : IVec S16 1 := andi main_v4 main_v7
  main_v8
-- ==== Pre_sizes_fill_and_finite.lean ====
abbrev S32768x1536 : Shape := ⟨2, ![32768, 1536]⟩
abbrev S16 : Shape := ⟨1, ![16]⟩
abbrev S16x7168x1536 : Shape := ⟨3, ![16, 7168, 1536]⟩
abbrev S16x7168 : Shape := ⟨2, ![16, 7168]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x1536 : S_.BroadcastsInDim S32768x1536 (![] : Fin 0 → Fin S32768x1536.rank)

variable [Facts]

def fn {F : FTy → Type} [FloatOps F] (main_arg0 : FVec F S32768x1536 .bf16) (main_arg1 : IVec S16 32) (main_arg2 : FVec F S16x7168x1536 .fp8e4m3) (main_arg3 : FVec F S16x7168 .f32) : IVec S16 1 × IVec S32768x1536 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 32768#32
  let main_v6 : IVec S_ 1 := cmpi .eq main_v5 main_c_2
  let main_v7 : IVec S16 1 := broadcastInDim S16 ![] bcast_S_S16 main_v6
  let main_v8 : IVec S16 1 := andi main_v4 main_v7
  let main_v9 : FVec F S32768x1536 .bf16 := Host.absf main_arg0
  let main_cst : FVec F S_ .bf16 := constant S_ .bf16 0x7F7F#16
  let main_v10 : FVec F S32768x1536 .bf16 := broadcastInDim S32768x1536 ![] bcast_S_S32768x1536 main_cst
  let main_v11 : IVec S32768x1536 1 := cmpf .ole main_v9 main_v10
  (main_v8, main_v11)
-- ==== Kernel.lean ====
abbrev S32768x1536 : Shape := ⟨2, ![32768, 1536]⟩
abbrev S16 : Shape := ⟨1, ![16]⟩
abbrev S16x7168x1536 : Shape := ⟨3, ![16, 7168, 1536]⟩
abbrev S16x7168 : Shape := ⟨2, ![16, 7168]⟩
abbrev S_ : Shape := ⟨0, ![]⟩
abbrev S1 : Shape := ⟨1, ![1]⟩
abbrev S79 : Shape := ⟨1, ![79]⟩
abbrev S79x1 : Shape := ⟨2, ![79, 1]⟩
abbrev S1x16 : Shape := ⟨2, ![1, 16]⟩
abbrev S79x16 : Shape := ⟨2, ![79, 16]⟩
abbrev S16x1x7168 : Shape := ⟨3, ![16, 1, 7168]⟩
abbrev S32768x7168 : Shape := ⟨2, ![32768, 7168]⟩
abbrev S512x1536 : Shape := ⟨2, ![512, 1536]⟩
abbrev S1x7168x1536 : Shape := ⟨3, ![1, 7168, 1536]⟩
abbrev S1x1x7168 : Shape := ⟨3, ![1, 1, 7168]⟩
abbrev S512x7168 : Shape := ⟨2, ![512, 7168]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S1x1792x1536 : Shape := ⟨3, ![1, 1792, 1536]⟩
abbrev S1792x1536 : Shape := ⟨2, ![1792, 1536]⟩
abbrev S512x1792 : Shape := ⟨2, ![512, 1792]⟩
abbrev S1x1x1792 : Shape := ⟨3, ![1, 1, 1792]⟩
abbrev S1x1792 : Shape := ⟨2, ![1, 1792]⟩

abbrev nBuf : Space → Nat
  | .hbm => 113
  | .vmem => 10
  | .smem => 5
  | _ => 0

abbrev bufTy : (tb : Table) → Fin (tcTables nBuf tb) → BufTy
  | .hbm, ⟨0, _⟩ => ⟨S32768x1536, .bf16⟩
  | .hbm, ⟨1, _⟩ => ⟨S16, .i32⟩
  | .hbm, ⟨2, _⟩ => ⟨S16x7168x1536, .fp8e4m3⟩
  | .hbm, ⟨3, _⟩ => ⟨S16x7168, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S_, .i32⟩
  | .hbm, ⟨56, _⟩ => ⟨S16, .i32⟩
  | .hbm, ⟨57, _⟩ => ⟨S16, .i32⟩
  | .hbm, ⟨58, _⟩ => ⟨S_, .i32⟩
  | .hbm, ⟨59, _⟩ => ⟨S_, .i32⟩
  | .hbm, ⟨60, _⟩ => ⟨S16, .i32⟩
  | .hbm, ⟨61, _⟩ => ⟨S1, .i32⟩
  | .hbm, ⟨62, _⟩ => ⟨S_, .i32⟩
  | .hbm, ⟨63, _⟩ => ⟨S79, .i32⟩
  | .hbm, ⟨64, _⟩ => ⟨S_, .i32⟩
  | .hbm, ⟨65, _⟩ => ⟨S_, .i32⟩
  | .hbm, ⟨66, _⟩ => ⟨S79, .i32⟩
  | .hbm, ⟨67, _⟩ => ⟨S79, .i32⟩
  | .hbm, ⟨68, _⟩ => ⟨S79x1, .i32⟩
  | .hbm, ⟨69, _⟩ => ⟨S1x16, .i32⟩
  | .hbm, ⟨70, _⟩ => ⟨S79x16, .i32⟩
  | .hbm, ⟨71, _⟩ => ⟨S79x16, .i32⟩
  | .hbm, ⟨72, _⟩ => ⟨S79x16, .i1⟩
  | .hbm, ⟨73, _⟩ => ⟨S79x16, .i32⟩
  | .hbm, ⟨74, _⟩ => ⟨S_, .i32⟩
  | .hbm, ⟨75, _⟩ => ⟨S_, .i32⟩
  | .hbm, ⟨76, _⟩ => ⟨S79, .i32⟩
  | .hbm, ⟨77, _⟩ => ⟨S79, .i1⟩
  | .hbm, ⟨78, _⟩ => ⟨S_, .i32⟩
  | .hbm, ⟨79, _⟩ => ⟨S79, .i32⟩
  | .hbm, ⟨80, _⟩ => ⟨S79, .i32⟩
  | .hbm, ⟨81, _⟩ => ⟨S79, .i32⟩
  | .hbm, ⟨82, _⟩ => ⟨S79x1, .i32⟩
  | .hbm, ⟨83, _⟩ => ⟨S79, .i32⟩
  | .hbm, ⟨84, _⟩ => ⟨S79, .i32⟩
  | .hbm, ⟨85, _⟩ => ⟨S16, .i32⟩
  | .hbm, ⟨86, _⟩ => ⟨S_, .i32⟩
  | .hbm, ⟨87, _⟩ => ⟨S79, .i32⟩
  | .hbm, ⟨88, _⟩ => ⟨S79, .i1⟩
  | .hbm, ⟨89, _⟩ => ⟨S_, .i32⟩
  | .hbm, ⟨90, _⟩ => ⟨S79, .i32⟩
  | .hbm, ⟨91, _⟩ => ⟨S79, .i32⟩
  | .hbm, ⟨92, _⟩ => ⟨S79, .i32⟩
  | .hbm, ⟨93, _⟩ => ⟨S79x1, .i32⟩
  | .hbm, ⟨94, _⟩ => ⟨S79, .i32⟩
  | .hbm, ⟨95, _⟩ => ⟨S_, .i32⟩
  | .hbm, ⟨96, _⟩ => ⟨S79, .i32⟩
  | .hbm, ⟨97, _⟩ => ⟨S79, .i1⟩
  | .hbm, ⟨98, _⟩ => ⟨S_, .i32⟩
  | .hbm, ⟨99, _⟩ => ⟨S79, .i32⟩
  | .hbm, ⟨100, _⟩ => ⟨S79, .i32⟩
  | .hbm, ⟨101, _⟩ => ⟨S79, .i32⟩
  | .hbm, ⟨102, _⟩ => ⟨S79x1, .i32⟩
  | .hbm, ⟨103, _⟩ => ⟨S_, .i32⟩
  | .hbm, ⟨104, _⟩ => ⟨S79, .i32⟩
  | .hbm, ⟨105, _⟩ => ⟨S79, .i1⟩
  | .hbm, ⟨106, _⟩ => ⟨S_, .i32⟩
  | .hbm, ⟨107, _⟩ => ⟨S79, .i32⟩
  | .hbm, ⟨108, _⟩ => ⟨S79, .i32⟩
  | .hbm, ⟨109, _⟩ => ⟨S79, .i32⟩
  | .hbm, ⟨110, _⟩ => ⟨S79x1, .i32⟩
  | .hbm, ⟨111, _⟩ => ⟨S16x1x7168, .f32⟩
  | .hbm, ⟨112, _⟩ => ⟨S32768x7168, .bf16⟩
  | .local _ .vmem, ⟨0, _⟩ => ⟨S512x1536, .bf16⟩
  | .local _ .vmem, ⟨1, _⟩ => ⟨S512x1536, .bf16⟩
  | .local _ .vmem, ⟨2, _⟩ => ⟨S1x7168x1536, .fp8e4m3⟩
  | .local _ .vmem, ⟨3, _⟩ => ⟨S1x7168x1536, .fp8e4m3⟩
  | .local _ .vmem, ⟨4, _⟩ => ⟨S1x1x7168, .f32⟩
  | .local _ .vmem, ⟨5, _⟩ => ⟨S1x1x7168, .f32⟩
  | .local _ .vmem, ⟨6, _⟩ => ⟨S512x7168, .bf16⟩
  | .local _ .vmem, ⟨7, _⟩ => ⟨S512x7168, .bf16⟩
  | .local _ .vmem, ⟨8, _⟩ => ⟨S512x1536, .fp8e5m2⟩
  | .local _ .vmem, ⟨9, _⟩ => ⟨S512x128, .f32⟩
  | .local _ .smem, ⟨0, _⟩ => ⟨S79, .i32⟩
  | .local _ .smem, ⟨1, _⟩ => ⟨S79, .i32⟩
  | .local _ .smem, ⟨2, _⟩ => ⟨S79, .i32⟩
  | .local _ .smem, ⟨3, _⟩ => ⟨S79, .i32⟩
  | .local _ .smem, ⟨4, _⟩ => ⟨S1, .i32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_c_7 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c_9 : Ref sig .tc := ⟨.hbm, 86, rfl⟩
abbrev main_v35 : Ref sig .tc := ⟨.hbm, 87, rfl⟩
abbrev main_v36 : Ref sig .tc := ⟨.hbm, 88, rfl⟩
abbrev main_c_10 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_c_11 : Ref sig .tc := ⟨.hbm, 95, rfl⟩
abbrev main_v43 : Ref sig .tc := ⟨.hbm, 96, rfl⟩
abbrev main_v44 : Ref sig .tc := ⟨.hbm, 97, rfl⟩
abbrev main_c_12 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_c_13 : Ref sig .tc := ⟨.hbm, 103, rfl⟩
abbrev main_v50 : Ref sig .tc := ⟨.hbm, 104, rfl⟩
abbrev main_v51 : Ref sig .tc := ⟨.hbm, 105, rfl⟩
abbrev main_c_14 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v58 : Ref sig .tc := ⟨.hbm, 111, rfl⟩
abbrev main_v59 : Ref sig .tc := ⟨.hbm, 112, rfl⟩
abbrev main_v42 : Ref sig .tc := ⟨.smem, 0, rfl⟩
abbrev main_v25 : Ref sig .tc := ⟨.smem, 1, rfl⟩
abbrev main_v49 : Ref sig .tc := ⟨.smem, 2, rfl⟩
abbrev main_v56 : Ref sig .tc := ⟨.smem, 3, rfl⟩
abbrev main_v57 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![79], ![false]⟩

abbrev pre0 : Pipeline.Prefetch sig := ⟨5, ![main_v42.idx, main_v25.idx, main_v49.idx, main_v56.idx, main_v57.idx], fun | 0 => main_v42.names | 1 => main_v25.names | 2 => main_v49.names | 3 => main_v56.names | 4 => main_v57.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_0 : BitVec 32 := 0#32
  let v8 : BitVec 32 := Scalar.maxsi v7 c0_i32_0
  let v9 : Index := Scalar.indexCast v8
  ![v9.toNat]
def k0_cond2 (i : grid0.Coords) (v18 : BitVec 32) : BitVec 1 :=
  let arg0 : BitVec 32 := BitVec.ofNat 32 (i 0).val
  let v19 : BitVec 1 := Scalar.cmpi .slt arg0 v18
  let v20 : BitVec 32 := Scalar.extui v19
  let c0_i32_3 : BitVec 32 := 0#32
  let v21 : BitVec 1 := Scalar.cmpi .ne v20 c0_i32_3
  v21

def cc0_transform_0 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x7168x1536 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x1536 : Shape := ⟨2, ![32768, 1536]⟩
abbrev S16 : Shape := ⟨1, ![16]⟩
abbrev S16x7168x1536 : Shape := ⟨3, ![16, 7168, 1536]⟩
abbrev S16x7168 : Shape := ⟨2, ![16, 7168]⟩
abbrev S_ : Shape := ⟨0, ![]⟩
abbrev S32768 : Shape := ⟨1, ![32768]⟩
abbrev S32768x1 : Shape := ⟨2, ![32768, 1]⟩
abbrev S1x16 : Shape := ⟨2, ![1, 16]⟩
abbrev S32768x16 : Shape := ⟨2, ![32768, 16]⟩
abbrev S32768x7168 : Shape := ⟨2, ![32768, 7168]⟩
abbrev S1x7168x1536 : Shape := ⟨3, ![1, 7168, 1536]⟩
abbrev S7168x1536 : Shape := ⟨2, ![7168, 1536]⟩
abbrev S1x7168 : Shape := ⟨2, ![1, 7168]⟩
abbrev S7168 : Shape := ⟨1, ![7168]⟩

abbrev nBuf : Space → Nat
  | .hbm => 18
  | .vmem => 5
  | .smem => 0
  | _ => 0

abbrev bufTy : (tb : Table) → Fin (tcTables nBuf tb) → BufTy
  | .hbm, ⟨0, _⟩ => ⟨S32768x1536, .bf16⟩
  | .hbm, ⟨1, _⟩ => ⟨S16, .i32⟩
  | .hbm, ⟨2, _⟩ => ⟨S16x7168x1536, .fp8e4m3⟩
  | .hbm, ⟨3, _⟩ => ⟨S16x7168, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S32768, .i32⟩
  | .hbm, ⟨8, _⟩ => ⟨S32768x1, .i32⟩
  | .hbm, ⟨9, _⟩ => ⟨S1x16, .i32⟩
  | .hbm, ⟨10, _⟩ => ⟨S32768x16, .i32⟩
  | .hbm, ⟨11, _⟩ => ⟨S32768x16, .i32⟩
  | .hbm, ⟨12, _⟩ => ⟨S32768x16, .i1⟩
  | .hbm, ⟨13, _⟩ => ⟨S32768x16, .i32⟩
  | .hbm, ⟨14, _⟩ => ⟨S_, .i32⟩
  | .hbm, ⟨15, _⟩ => ⟨S32768, .i32⟩
  | .hbm, ⟨16, _⟩ => ⟨S32768x1, .i32⟩
  | .hbm, ⟨17, _⟩ => ⟨S32768x7168, .bf16⟩
  | .local _ .vmem, ⟨0, _⟩ => ⟨S32768x1536, .bf16⟩
  | .local _ .vmem, ⟨1, _⟩ => ⟨S32768x1, .i32⟩
  | .local _ .vmem, ⟨2, _⟩ => ⟨S16x7168x1536, .fp8e4m3⟩
  | .local _ .vmem, ⟨3, _⟩ => ⟨S16x7168, .f32⟩
  | .local _ .vmem, ⟨4, _⟩ => ⟨S32768x7168, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32768x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x7168x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.BodyK.lean ====
/-
  The kernel's body at one grid point: what it leaves in the scratch buffers and in the output's staging buffer, from what it finds.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads off the tables -/

/-- The place that point `i` reads off a table. -/
abbrev rHere (i : grid0.Coords) : Rect S79 := Rect.unit (s := S79) (k0_off1 i) S1.size (k0_off1_inb i)
/-- The place before it (the first place at the first point). -/
abbrev rPrev (i : grid0.Coords) : Rect S79 := Rect.unit (s := S79) (k0_off2 i) S1.size (k0_off2_inb i)
/-- The one place of the table with one word. -/
abbrev rOne : Rect S1 := Rect.unit (s := S1) ![0] S1.size inb_S1_S1_0

abbrev wHere (x : Vec F S79 .i32) (i : grid0.Coords) : BitVec 32 := View.ld x (rHere i) (Shape.Idx.first (numel1_S1.symm ▸ Nat.one_pos))
abbrev wPrev (x : Vec F S79 .i32) (i : grid0.Coords) : BitVec 32 := View.ld x (rPrev i) (Shape.Idx.first (numel1_S1.symm ▸ Nat.one_pos))
abbrev wOne (x : Vec F S1 .i32) : BitVec 32 := View.ld x rOne (Shape.Idx.first (numel1_S1.symm ▸ Nat.one_pos))

/-- The body's first condition: the item is used and its tile is not the one before. -/
def fresh (i : grid0.Coords) (x1 : Vec F S79 .i32) (x5 : Vec F S1 .i32) : Prop :=
  Scalar.cmpi .ne (Scalar.extui (Scalar.andi (Scalar.cmpi .slt (BitVec.ofNat 32 (i 0).val) (wOne x5))
    (Scalar.ori (Scalar.cmpi .eq (BitVec.ofNat 32 (i 0).val) 0#32) (Scalar.cmpi .ne (wPrev x1 i) (wHere x1 i)))) : BitVec 32) 0#32 = 1#1
/-- The body's second condition: the item is used. -/
def live (i : grid0.Coords) (x5 : Vec F S1 .i32) : Prop := k0_cond2 i (wOne x5) = 1#1

instance (i : grid0.Coords) (x1 : Vec F S79 .i32) (x5 : Vec F S1 .i32) : Decidable (fresh i x1 x5) := by unfold fresh; infer_instance
instance (i : grid0.Coords) (x5 : Vec F S1 .i32) : Decidable (live i x5) := by unfold live; infer_instance

/-! ## The accesses and what is stored -/

abbrev rDy : Rect S512x1536 := Rect.unit (s := S512x1536) ![0, 0] S512x1536.size inb_S512x1536_S512x1536_0_0
abbrev rSc : Rect S512x128 := Rect.unit (s := S512x128) ![0, 0] S512x128.size inb_S512x128_S512x128_0_0
abbrev rSc1 : Rect S512x128 := Rect.unit (s := S512x128) ![0, 0] S512x1.size inb_S512x128_S512x1_0_0
abbrev rW0 : Rect S1x7168x1536 := Rect.unit (s := S1x7168x1536) ![0, 0, 0] S1x1792x1536.size inb_S1x7168x1536_S1x1792x1536_0_0_0
abbrev rW1 : Rect S1x7168x1536 := Rect.unit (s := S1x7168x1536) ![0, 1792, 0] S1x1792x1536.size inb_S1x7168x1536_S1x1792x1536_0_1792_0
abbrev rW2 : Rect S1x7168x1536 := Rect.unit (s := S1x7168x1536) ![0, 3584, 0] S1x1792x1536.size inb_S1x7168x1536_S1x1792x1536_0_3584_0
abbrev rW3 : Rect S1x7168x1536 := Rect.unit (s := S1x7168x1536) ![0, 5376, 0] S1x1792x1536.size inb_S1x7168x1536_S1x1792x1536_0_5376_0
abbrev rS0 : Rect S1x1x7168 := Rect.unit (s := S1x1x7168) ![0, 0, 0] S1x1x1792.size inb_S1x1x7168_S1x1x1792_0_0_0
abbrev rS1 : Rect S1x1x7168 := Rect.unit (s := S1x1x7168) ![0, 0, 1792] S1x1x1792.size inb_S1x1x7168_S1x1x1792_0_0_1792
abbrev rS2 : Rect S1x1x7168 := Rect.unit (s := S1x1x7168) ![0, 0, 3584] S1x1x1792.size inb_S1x1x7168_S1x1x1792_0_0_3584
abbrev rS3 : Rect S1x1x7168 := Rect.unit (s := S1x1x7168) ![0, 0, 5376] S1x1x1792.size inb_S1x1x7168_S1x1x1792_0_0_5376
abbrev rO0 : Rect S512x7168 := Rect.unit (s := S512x7168) ![0, 0] S512x1792.size inb_S512x7168_S512x1792_0_0
abbrev rO1 : Rect S512x7168 := Rect.unit (s := S512x7168) ![0, 1792] S512x1792.size inb_S512x7168_S512x1792_0_1792
abbrev rO2 : Rect S512x7168 := Rect.unit (s := S512x7168) ![0, 3584] S512x1792.size inb_S512x7168_S512x1792_0_3584
abbrev rO3 : Rect S512x7168 := Rect.unit (s := S512x7168) ![0, 5376] S512x1792.size inb_S512x7168_S512x1792_0_5376

/-- The codes stored for a block of rows. -/
def codes (x6 : Vec F S512x1536 .bf16) : Vec F S512x1536 .fp8e5m2 := k0_pay1 (Scalar.ofBits .bf16 0x4760#16) (k0_pay6 (View.ld x6 rDy))
/-- The scales stored for a block of rows, repeated across the lanes. -/
def scales (x6 : Vec F S512x1536 .bf16) : Vec F S512x128 .f32 := k0_pay2 (k0_pay5 (View.ld x6 rDy))

/-- The four column chunks that a point stores. -/
def chunk0 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay8 v1 v3 v5 (View.ld q rDy) (View.ld x7 rW0) (View.ld z rSc1) (View.ld x8 rS0) (View.ld Y rO0)
def chunk1 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay10 (k0_pay7 (F := F) v1 v3 v5) (k0_pay9 (View.ld q rDy) (View.ld x7 rW1) (View.ld z rSc1)) (View.ld x8 rS1) (View.ld Y rO1)
def chunk2 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay11 (k0_pay7 (F := F) v1 v3 v5) (View.ld q rDy) (View.ld x7 rW2) (View.ld z rSc1) (View.ld x8 rS2) (View.ld Y rO2)
def chunk3 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay3 (k0_pay7 (F := F) v1 v3 v5) (View.ld q rDy) (k0_pay12 (View.ld x7 rW3)) (View.ld z rSc1) (View.ld x8 rS3) (View.ld Y rO3)

/-- The output's buffer after a used point. -/
def stepOut (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : Vec F S512x7168 .bf16 :=
  View.canon [⟨rO3, chunk3 v1 v3 v5 x7 x8 Y q z⟩, ⟨rO2, chunk2 v1 v3 v5 x7 x8 Y q z⟩, ⟨rO1, chunk1 v1 v3 v5 x7 x8 Y q z⟩, ⟨rO0, chunk0 v1 v3 v5 x7 x8 Y q z⟩]

theorem cover (p0 p1 p2 p3 : Vec F S512x1792 .bf16) (y : S512x7168.Idx) :
    ∃ pc ∈ ([⟨rO3, p3⟩, ⟨rO2, p2⟩, ⟨rO1, p1⟩, ⟨rO0, p0⟩] : List (View.Piece (Elt F) S512x7168 .bf16)), y ∈ pc.1.set :=
  View.cover_of_tiled [⟨rO3, p3⟩, ⟨rO2, p2⟩, ⟨rO1, p1⟩, ⟨rO0, p0⟩] S512x1792.size (by rfl) y

/-- The codes, the scales and the output's buffer after the point. -/
def codesAfter (i : grid0.Coords) (x1 : Vec F S79 .i32) (x5 : Vec F S1 .i32) (x6 : Vec F S512x1536 .bf16) (q : Vec F S512x1536 .fp8e5m2) : Vec F S512x1536 .fp8e5m2 :=
  if fresh i x1 x5 then codes x6 else q
def scalesAfter (i : grid0.Coords) (x1 : Vec F S79 .i32) (x5 : Vec F S1 .i32) (x6 : Vec F S512x1536 .bf16) (z : Vec F S512x128 .f32) : Vec F S512x128 .f32 :=
  if fresh i x1 x5 then scales x6 else z
def outAfter (i : grid0.Coords) (x1 x3 x4 : Vec F S79 .i32) (x5 : Vec F S1 .i32) (x6 : Vec F S512x1536 .bf16) (x7 : Vec F S1x7168x1536 .fp8e4m3) (x8 : Vec F S1x1x7168 .f32)
    (Y : Vec F S512x7168 .bf16) (q : Vec F S512x1536 .fp8e5m2) (z : Vec F S512x128 .f32) : Vec F S512x7168 .bf16 :=
  if live i x5 then stepOut (wHere x1 i) (wHere x3 i) (wHere x4 i) x7 x8 Y (codesAfter i x1 x5 x6 q) (scalesAfter i x1 x5 x6 z) else Y

theorem read_whole_write (v : View sig .tc .vmem S512x1536 .fp8e5m2) (f) (p : Vec F S512x1536 .fp8e5m2) :
    v.read (Elt F) (v.writes (Elt F) f [⟨rDy, p⟩]) = p := by
  rw [View.read_writes_eq_canon v f _ (fun y => View.cover_of_tiled [⟨rDy, p⟩] S512x1536.size (by rfl) y)]
  exact View.canon_unit_zero (by funext a; fin_cases a <;> rfl) _ _
theorem read_whole_write' (v : View sig .tc .vmem S512x128 .f32) (f) (p : Vec F S512x128 .f32) :
    v.read (Elt F) (v.writes (Elt F) f [⟨rSc, p⟩]) = p := by
  rw [View.read_writes_eq_canon v f _ (fun y => View.cover_of_tiled [⟨rSc, p⟩] S512x128.size (by rfl) y)]
  exact View.canon_unit_zero (by funext a; fin_cases a <;> rfl) _ _

set_option maxHeartbeats 2000000 in
theorem sound (c : Dev nD) (E : Set ℕ) (i : grid0.Coords) (arg1 : Memref sig .tc .smem S79 .i32) (harg1 : arg1.IsWhole) (arg2 : Memref sig .tc .smem S79 .i32) (harg2 : arg2.IsWhole) (arg3 : Memref sig .tc .smem S79 .i32) (harg3 : arg3.IsWhole) (arg4 : Memref sig .tc .smem S79 .i32) (harg4 : arg4.IsWhole) (arg5 : Memref sig .tc .smem S1 .i32) (harg5 : arg5.IsWhole) (arg6 : Memref sig .tc .vmem S512x1536 .bf16) (harg6 : arg6.IsWhole) (arg7 : Memref sig .tc .vmem S1x7168x1536 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x1536 .fp8e5m2) (harg10 : arg10.IsWhole) (arg11 : Memref sig .tc .vmem S512x128 .f32) (harg11 : arg11.IsWhole)
    (x1 x2 x3 x4 : Vec F S79 .i32) (x5 : Vec F S1 .i32) (x6 : Vec F S512x1536 .bf16) (x7 : Vec F S1x7168x1536 .fp8e4m3) (x8 : Vec F S1x1x7168 .f32)
    (Y : Vec F S512x7168 .bf16) (q : Vec F S512x1536 .fp8e5m2) (z : Vec F S512x128 .f32) (K : PUnit → sProp 𝕄) :
    iprop(owns (c : Thread nD τ) arg1 fullShare.right x1 ∗ owns (c : Thread nD τ) arg2 fullShare.right x2 ∗ owns (c : Thread nD τ) arg3 fullShare.right x3 ∗ owns (c : Thread nD τ) arg4 fullShare.right x4
        ∗ owns (c : Thread nD τ) arg5 fullShare.right x5 ∗ owns (c : Thread nD τ) arg6 fullShare x6 ∗ owns (c : Thread nD τ) arg7 fullShare x7 ∗ owns (c : Thread nD τ) arg8 fullShare x8
        ∗ owns (c : Thread nD τ) arg9 fullShare Y ∗ owns (c : Thread nD τ) arg10 fullShare q ∗ owns (c : Thread nD τ) arg11 fullShare z
        ∗ (iprop(owns (c : Thread nD τ) arg1 fullShare.right x1 ∗ owns (c : Thread nD τ) arg2 fullShare.right x2 ∗ owns (c : Thread nD τ) arg3 fullShare.right x3 ∗ owns (c : Thread nD τ) arg4 fullShare.right x4
        ∗ owns (c : Thread nD τ) arg5 fullShare.right x5 ∗ owns (c : Thread nD τ) arg6 fullShare x6 ∗ owns (c : Thread nD τ) arg7 fullShare x7 ∗ owns (c : Thread nD τ) arg8 fullShare x8
        ∗ owns (c : Thread nD τ) arg9 fullShare (outAfter i x1 x3 x4 x5 x6 x7 x8 Y q z) ∗ owns (c : Thread nD τ) arg10 fullShare (codesAfter i x1 x5 x6 q) ∗ owns (c : Thread nD τ) arg11 fullShare (scalesAfter i x1 x5 x6 z)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1 hf2 hf3 hf4 hf5 hf6 hf7 hf8 hf9 hf10 hf11
  sl_exec
  sl_step
  have h10 : View.read (Elt F) arg10.view (if hc : fresh i (View.read (Elt F) arg1.view f1) (View.read (Elt F) arg5.view f5) then
        arg10.view.writes (Elt F) f10 [⟨rDy, codes (View.read (Elt F) arg6.view f6)⟩] else f10)
      = codesAfter i (View.read (Elt F) arg1.view f1) (View.read (Elt F) arg5.view f5) (View.read (Elt F) arg6.view f6) (View.read (Elt F) arg10.view f10) := by
    unfold codesAfter
    by_cases h : fresh i (View.read (Elt F) arg1.view f1) (View.read (Elt F) arg5.view f5)
    · rw [dif_pos h, if_pos h]; exact read_whole_write arg10.view f10 _
    · rw [dif_neg h, if_neg h]
  have h11 : View.read (Elt F) arg11.view (if hc : fresh i (View.read (Elt F) arg1.view f1) (View.read (Elt F) arg5.view f5) then
        arg11.view.writes (Elt F) f11 [⟨rSc, scales (View.read (Elt F) arg6.view f6)⟩] else f11)
      = scalesAfter i (View.read (Elt F) arg1.view f1) (View.read (Elt F) arg5.view f5) (View.read (Elt F) arg6.view f6) (View.read (Elt F) arg11.view f11) := by
    unfold scalesAfter
    by_cases h : fresh i (View.read (Elt F) arg1.view f1) (View.read (Elt F) arg5.view f5)
    · rw [dif_pos h, if_pos h]; exact read_whole_write' arg11.view f11 _
    · rw [dif_neg h, if_neg h]
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists _; isplitr
    swap; · iexact H9
    ipureintro
    unfold outAfter
    by_cases h : live i (View.read (Elt F) arg5.view f5)
    · rw [if_pos h]
      refine (congrArg _ (dif_pos h)).trans ?_
      refine (View.read_writes_eq_canon _ _ _ (cover _ _ _ _)).trans ?_
      unfold stepOut chunk0 chunk1 chunk2 chunk3
      rw [← h10, ← h11]
      rfl
    · rw [if_neg h]
      exact congrArg _ (dif_neg h)
  isplitl [H10]
  · iexists _; isplitr
    swap; · iexact H10
    ipureintro
    exact h10
  iexists _; isplitr
  swap; · iexact H11
  ipureintro
  exact h11

end Cert.Kernel.Hand
-- ==== Proof.RunK.lean ====
/-
  The run of the kernel's pipeline: the tables as the host operations leave them, the proof data, the body's obligation and the launch.
-/
module

public import proofs.«01_k».proof.Proof.BodyK

@[expose] public section

set_option synthInstance.maxSize 4096
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 1600000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables' contents when the region is entered. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
/-- Every block of every window lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S79 .i32 := Memref.whole main_v42
abbrev tbM0_1 : Memref sig .tc .smem S79 .i32 := Memref.whole main_v25
abbrev tbM0_2 : Memref sig .tc .smem S79 .i32 := Memref.whole main_v49
abbrev tbM0_3 : Memref sig .tc .smem S79 .i32 := Memref.whole main_v56
abbrev tbM0_4 : Memref sig .tc .smem S1 .i32 := Memref.whole main_v57

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The tables as vectors of words. -/
def tb0 : Vec F S79 .i32 := tbl m 0
def tb1 : Vec F S79 .i32 := tbl m 1
def tb2 : Vec F S79 .i32 := tbl m 2
def tb3 : Vec F S79 .i32 := tbl m 3
def tb4 : Vec F S1 .i32 := tbl m 4

/-! ## The windows' blocks -/

variable (hO : Ok m)

/-- Window `w`'s block at point `t`, read off its array as the region finds it. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

def dyb (c : Dev nD) (t : Fin (cfgM m hO).N) : Vec F S512x1536 .bf16 := iblk m hO c 0 t
def wb (c : Dev nD) (t : Fin (cfgM m hO).N) : Vec F S1x7168x1536 .fp8e4m3 := iblk m hO c 1 t
def wsb (c : Dev nD) (t : Fin (cfgM m hO).N) : Vec F S1x1x7168 .f32 := iblk m hO c 2 t

/-- What the output's buffer holds after point `t` when it held `Y` before. -/
def outStep (c : Dev nD) (t : Fin (cfgM m hO).N) (Y : Vec F S512x7168 .bf16) : Vec F S512x7168 .bf16 :=
  if live (grid0.coords t) (tb4 m) then
    stepOut (wHere (tb0 m) (grid0.coords t)) (wHere (tb2 m) (grid0.coords t)) (wHere (tb3 m) (grid0.coords t)) (wb m hO c t) (wsb m hO c t) Y
      (codes (dyb m hO c t)) (scales (dyb m hO c t))
  else Y

/-- What the scratch buffers hold before point `t`: the codes and scales of the block of the point before it, when that point was used. -/
def Kept (c : Dev nD) (t : Fin ((cfgM m hO).N + 1)) (q : Vec F S512x1536 .fp8e5m2) (z : Vec F S512x128 .f32) : Prop :=
  ∀ u : Fin (cfgM m hO).N, u.val + 1 = t.val → live (grid0.coords u) (tb4 m) → q = codes (dyb m hO c u) ∧ z = scales (dyb m hO c u)

abbrev sc0 : Memref sig .tc .vmem S512x1536 .fp8e5m2 := Memref.whole cc0_scratch0
abbrev sc1 : Memref sig .tc .vmem S512x128 .f32 := Memref.whole cc0_scratch1

def Inv (c : Dev nD) (t : Fin ((cfgM m hO).N + 1)) : sProp 𝕄 :=
  iprop((∃ r, prngReg c r) ∗ owns (c : Thread nD τ) tbM0_0 fullShare.right (tb0 m) ∗ owns (c : Thread nD τ) tbM0_1 fullShare.right (tb1 m)
    ∗ owns (c : Thread nD τ) tbM0_2 fullShare.right (tb2 m) ∗ owns (c : Thread nD τ) tbM0_3 fullShare.right (tb3 m) ∗ owns (c : Thread nD τ) tbM0_4 fullShare.right (tb4 m)
    ∗ ∃ q z, ⌜Kept m hO c t q z⌝ ∗ owns (c : Thread nD τ) sc0 fullShare q ∗ owns (c : Thread nD τ) sc1 fullShare z)

/-- The proof data: the inputs' buffers stay, the output's goes through `outStep`. -/
def rdat (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => X = outStep m hO c t Y
  Φ t := Inv m hO c t
  q _ := fullShare
  owed _ := 0

theorem A_eq (c : Dev nD) (w : Fin (cfgM m hO).W) : (rdat m hO c).A w = V m c (Pipeline.arrRef spec0 w) := by
  dsimp only [rdat]

theorem after0 (c : Dev nD) (t) (Y X) : (rdat m hO c).after 0 t Y X ↔ X = Y := by dsimp only [rdat]; rfl
theorem after1 (c : Dev nD) (t) (Y X) : (rdat m hO c).after 1 t Y X ↔ X = Y := by dsimp only [rdat]; rfl
theorem after2 (c : Dev nD) (t) (Y X) : (rdat m hO c).after 2 t Y X ↔ X = Y := by dsimp only [rdat]; rfl
theorem after3 (c : Dev nD) (t) (Y X) : (rdat m hO c).after 3 t Y X ↔ X = outStep m hO c t Y := by dsimp only [rdat]; rfl

theorem finds0 (c : Dev nD) (t) (Y) (h : (rdat m hO c).Finds 0 t Y) : Y = dyb m hO c t := by
  obtain ⟨d, rfl⟩ := (rdat m hO c).finds_in_eq_fetched 0 rfl (fun _ _ _ => rfl) (fun t Y X h => (after0 m hO c t Y X).mp h) t Y h
  unfold RDat.fetched RDat.blockOf dyb iblk; rw [A_eq]; rfl
theorem finds1 (c : Dev nD) (t) (Y) (h : (rdat m hO c).Finds 1 t Y) : Y = wb m hO c t := by
  obtain ⟨d, rfl⟩ := (rdat m hO c).finds_in_eq_fetched 1 rfl (fun _ _ _ => rfl) (fun t Y X h => (after1 m hO c t Y X).mp h) t Y h
  unfold RDat.fetched RDat.blockOf wb iblk; rw [A_eq]; rfl
theorem finds2 (c : Dev nD) (t) (Y) (h : (rdat m hO c).Finds 2 t Y) : Y = wsb m hO c t := by
  obtain ⟨d, rfl⟩ := (rdat m hO c).finds_in_eq_fetched 2 rfl (fun _ _ _ => rfl) (fun t Y X h => (after2 m hO c t Y X).mp h) t Y h
  unfold RDat.fetched RDat.blockOf wsb iblk; rw [A_eq]; rfl

end Cert.Kernel.Hand
-- ==== Proof.RunK2.lean ====
/-
  The body's obligation at every point, and the launch.
-/
module

public import proofs.«01_k».proof.Proof.RunK
public import Idealize.ShloMosaic.Lib.ValueIdxCore

@[expose] public section

set_option synthInstance.maxSize 4096
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)
open Idealize.ShloMosaic.ValueIdx (ix1)

variable {F : FTy → Type} [FloatOps F]

local notation "𝕄" => MT nD τ sig Unit (Elt F) ℕ (UR sig nD τ) ℕ

/-! ## The words read, by the point -/

theorem coords_val : ∀ t : Fin grid0.N, (grid0.coords t 0).val = t.val := by decide +kernel
theorem off1_val : ∀ t : Fin grid0.N, k0_off1 (grid0.coords t) 0 = t.val := by decide +kernel
theorem off2_val : ∀ t : Fin grid0.N, k0_off2 (grid0.coords t) 0 = t.val - 1 := by decide +kernel

theorem lt79 (t : Fin grid0.N) : t.val < 79 := N_0 ▸ t.isLt

theorem wHere_eq (x : Vec F S79 .i32) (t : Fin grid0.N) : wHere x (grid0.coords t) = x (ix1 ⟨t.val, lt79 t⟩) := by
  refine congrArg x ?_
  funext a
  obtain rfl : a = 0 := Subsingleton.elim _ _
  apply Fin.ext
  change k0_off1 (grid0.coords t) 0 + 1 * _ = t.val
  rw [off1_val]; rfl

theorem wPrev_eq (x : Vec F S79 .i32) (t : Fin grid0.N) : wPrev x (grid0.coords t) = x (ix1 ⟨t.val - 1, Nat.lt_of_le_of_lt (Nat.sub_le _ _) (lt79 t)⟩) := by
  refine congrArg x ?_
  funext a
  obtain rfl : a = 0 := Subsingleton.elim _ _
  apply Fin.ext
  change k0_off2 (grid0.coords t) 0 + 1 * _ = t.val - 1
  rw [off2_val]; rfl

theorem bit_ne_zero (b : BitVec 1) : (Scalar.cmpi .ne (Scalar.extui b : BitVec 32) 0#32 = 1#1) ↔ b = 1#1 := by
  revert b; decide

theorem and_bits (a b : BitVec 1) : Scalar.andi a b = 1#1 ↔ a = 1#1 ∧ b = 1#1 := by revert a b; decide
theorem or_bits (a b : BitVec 1) : Scalar.ori a b = 1#1 ↔ a = 1#1 ∨ b = 1#1 := by revert a b; decide

theorem slt_mono (a b : Nat) (w : BitVec 32) (h : a ≤ b) (hb : b < 79) (hw : Scalar.cmpi .slt (BitVec.ofNat 32 b) w = 1#1) :
    Scalar.cmpi .slt (BitVec.ofNat 32 a) w = 1#1 := by
  have ha : (BitVec.ofNat 32 a).toInt = a := by
    rw [BitVec.toInt_eq_toNat_of_lt (by simp only [BitVec.toNat_ofNat]; omega), BitVec.toNat_ofNat]; omega
  have hb' : (BitVec.ofNat 32 b).toInt = b := by
    rw [BitVec.toInt_eq_toNat_of_lt (by simp only [BitVec.toNat_ofNat]; omega), BitVec.toNat_ofNat]; omega
  have h1 := (WordCmp.cmpi_slt_eq (BitVec.ofNat 32 b) w).symm.trans hw
  refine (WordCmp.cmpi_slt_eq (BitVec.ofNat 32 a) w).trans ?_
  rw [WordCmp.ofBool_eq_one_iff, decide_eq_true_iff] at h1 ⊢
  omega

theorem live_iff (t : Fin grid0.N) (x5 : Vec F S1 .i32) : live (grid0.coords t) x5 ↔ Scalar.cmpi .slt (BitVec.ofNat 32 t.val) (wOne x5) = 1#1 := by
  unfold live k0_cond2
  rw [← coords_val t]
  exact bit_ne_zero _

theorem fresh_live (t : Fin grid0.N) (x1 : Vec F S79 .i32) (x5 : Vec F S1 .i32) (h : fresh (grid0.coords t) x1 x5) : live (grid0.coords t) x5 := by
  rw [live_iff]
  unfold fresh at h
  rw [bit_ne_zero, coords_val] at h
  exact (and_bits _ _).mp h |>.1

theorem not_fresh (t : Fin grid0.N) (x1 : Vec F S79 .i32) (x5 : Vec F S1 .i32) (h : ¬ fresh (grid0.coords t) x1 x5) (hl : live (grid0.coords t) x5) :
    t.val ≠ 0 ∧ wPrev x1 (grid0.coords t) = wHere x1 (grid0.coords t) := by
  rw [live_iff] at hl
  unfold fresh at h
  rw [bit_ne_zero, coords_val, and_bits, or_bits] at h
  have h' : ¬ (_ ∨ _) := fun x => h ⟨hl, x⟩
  rw [not_or] at h'
  refine ⟨fun h0 => h'.1 (by rw [h0]; rfl), ?_⟩
  by_contra hne
  exact h'.2 ((WordCmp.ofBool_eq_one_iff _).mpr (by simpa using hne))

/-- The windows' block numbers, by the words of the tables. -/
theorem tr0 (pf : pre0.Contents (Elt F)) (x : Vec F S79 .i32) (hx : pf 0 = x) (i : grid0.Coords) : cc0_transform_0 k0_off1_inb numel1_S1 pf i = ![(wHere x i).toNat, 0] := by subst hx; rfl
theorem tr1 (pf : pre0.Contents (Elt F)) (x : Vec F S79 .i32) (hx : pf 1 = x) (i : grid0.Coords) : cc0_transform_1 k0_off1_inb numel1_S1 pf i = ![(wHere x i).toNat, 0, 0] := by subst hx; rfl
theorem tr2 (pf : pre0.Contents (Elt F)) (x : Vec F S79 .i32) (hx : pf 1 = x) (i : grid0.Coords) : cc0_transform_2 k0_off1_inb numel1_S1 pf i = ![(wHere x i).toNat, 0, 0] := by subst hx; rfl
theorem tr3 (pf : pre0.Contents (Elt F)) (x : Vec F S79 .i32) (hx : pf 0 = x) (i : grid0.Coords) : cc0_transform_3 k0_off1_inb numel1_S1 pf i = ![(wHere x i).toNat, 0] := by subst hx; rfl

variable (m : (ℓ : Loc nD τ sig) → Buf (Elt F) ℓ) (ρ : Dev nD → PrngReg) (hO : Ok m)

theorem index0 (t : Fin (cfgM m hO).N) : ((cfgM m hO).win 0).index t = cc0_transform_0 k0_off1_inb numel1_S1 (tbl m) (grid0.coords t) := rfl
theorem index0_congr (t t' : Fin (cfgM m hO).N) (h : wHere (tb0 m) (grid0.coords t) = wHere (tb0 m) (grid0.coords t')) :
    ((cfgM m hO).win 0).index t = ((cfgM m hO).win 0).index t' := by
  rw [index0, index0, tr0 (tbl m) (tb0 m) rfl, tr0 (tbl m) (tb0 m) rfl, h]
theorem dyb_fetched (c : Dev nD) (d) (t : Fin (cfgM m hO).N) : (rdat m hO c).fetched 0 t d = dyb m hO c t := by
  unfold RDat.fetched RDat.blockOf dyb iblk; rw [A_eq]; rfl

/-- Two points with the same tile read the same block of rows. -/
theorem dyb_congr (c : Dev nD) (t t' : Fin (cfgM m hO).N) (h : wHere (tb0 m) (grid0.coords t) = wHere (tb0 m) (grid0.coords t')) :
    dyb m hO c t = dyb m hO c t' := by
  have e : ∀ t, (rdat m hO c).fetched 0 t (dyb m hO c t') = dyb m hO c t := dyb_fetched m hO c _
  exact (e t).symm.trans (((rdat m hO c).fetched_congr 0 (index0_congr m hO t t' h) rfl (dyb m hO c t')).trans (e t'))

theorem kept_codes (c : Dev nD) (t : Fin (cfgM m hO).N) (q z) (hk : Kept m hO c t.castSucc q z) (hl : live (grid0.coords t) (tb4 m)) :
    codesAfter (grid0.coords t) (tb0 m) (tb4 m) (dyb m hO c t) q = codes (dyb m hO c t)
      ∧ scalesAfter (grid0.coords t) (tb0 m) (tb4 m) (dyb m hO c t) z = scales (dyb m hO c t) := by
  unfold codesAfter scalesAfter
  by_cases hf : fresh (grid0.coords t) (tb0 m) (tb4 m)
  · rw [if_pos hf, if_pos hf]; exact ⟨rfl, rfl⟩
  · rw [if_neg hf, if_neg hf]
    obtain ⟨h0, hw⟩ := not_fresh t _ _ hf hl
    have hu : t.val - 1 < (cfgM m hO).N := Nat.lt_of_le_of_lt (Nat.sub_le _ _) t.isLt
    have e : dyb m hO c ⟨t.val - 1, hu⟩ = dyb m hO c t := dyb_congr m hO c _ _ (by rw [← hw, wPrev_eq, wHere_eq])
    rw [← e]
    refine hk ⟨t.val - 1, hu⟩ (by simp only [Fin.val_castSucc]; omega) ?_
    exact (live_iff ⟨t.val - 1, hu⟩ _).mpr (slt_mono _ _ _ (Nat.sub_le _ _) (lt79 t) ((live_iff t _).mp hl))

theorem kept_succ (c : Dev nD) (t : Fin (cfgM m hO).N) (q z) (hk : Kept m hO c t.castSucc q z) :
    Kept m hO c t.succ (codesAfter (grid0.coords t) (tb0 m) (tb4 m) (dyb m hO c t) q) (scalesAfter (grid0.coords t) (tb0 m) (tb4 m) (dyb m hO c t) z) := by
  intro u hu hl
  obtain rfl : u = t := Fin.ext (by simpa using hu)
  exact kept_codes m hO c u q z hk hl

theorem out_eq (c : Dev nD) (t : Fin (cfgM m hO).N) (Y q z) (hk : Kept m hO c t.castSucc q z) :
    outAfter (grid0.coords t) (tb0 m) (tb2 m) (tb3 m) (tb4 m) (dyb m hO c t) (wb m hO c t) (wsb m hO c t) Y q z = outStep m hO c t Y := by
  unfold outAfter outStep
  by_cases hl : live (grid0.coords t) (tb4 m)
  · rw [if_pos hl, if_pos hl, (kept_codes m hO c t q z hk hl).1, (kept_codes m hO c t q z hk hl).2]
  · rw [if_neg hl, if_neg hl]

/-! ## The body's obligation -/

abbrev st0 (t : Fin (cfgM m hO).N) := ((cfgM m hO).win 0).stage ((cfgM m hO).slots t 0)
abbrev st1 (t : Fin (cfgM m hO).N) := ((cfgM m hO).win 1).stage ((cfgM m hO).slots t 1)
abbrev st2 (t : Fin (cfgM m hO).N) := ((cfgM m hO).win 2).stage ((cfgM m hO).slots t 2)
abbrev st3 (t : Fin (cfgM m hO).N) := ((cfgM m hO).win 3).stage ((cfgM m hO).slots t 3)

abbrev bodyAt (t : Fin (cfgM m hO).N) : Prog (TpuEff nD τ sig (Elt F) Λ₀ .tc) PUnit :=
  cc0__body (grid0.coords t) (Memref.whole main_v42) (Memref.isWhole_whole _) (Memref.whole main_v25) (Memref.isWhole_whole _) (Memref.whole main_v49) (Memref.isWhole_whole _) (Memref.whole main_v56) (Memref.isWhole_whole _) (Memref.whole main_v57) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _)

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 2000000 in
theorem sound_body (c : Dev nD) (t : Fin (cfgM m hO).N) (Y3 : Vec F S512x7168 .bf16) :
    iprop((rdat m hO c).Φ t.castSucc ∗ (rdat m hO c).owesAt () t.castSucc
      ∗ owns (c : Thread nD τ) (st0 m hO t) fullShare (dyb m hO c t) ∗ owns (c : Thread nD τ) (st1 m hO t) fullShare (wb m hO c t)
      ∗ owns (c : Thread nD τ) (st2 m hO t) fullShare (wsb m hO c t) ∗ owns (c : Thread nD τ) (st3 m hO t) fullShare Y3)
    ⊢ wp frame (wpE (defs₀ (F := F)) Variants.none c none) Set.univ (bodyAt m hO t) (fun _ =>
      iprop((rdat m hO c).Φ t.succ ∗ (rdat m hO c).owesAt () t.succ
      ∗ owns (c : Thread nD τ) (st0 m hO t) fullShare (dyb m hO c t) ∗ owns (c : Thread nD τ) (st1 m hO t) fullShare (wb m hO c t)
      ∗ owns (c : Thread nD τ) (st2 m hO t) fullShare (wsb m hO c t) ∗ owns (c : Thread nD τ) (st3 m hO t) fullShare (outStep m hO c t Y3))) := by
  rw [show (rdat m hO c).Φ t.succ = Inv m hO c t.succ from rfl, show (rdat m hO c).Φ t.castSucc = Inv m hO c t.castSucc from rfl,
    show (rdat m hO c).owesAt () t.succ = (rdat m hO c).owesAt () t.castSucc from rfl]
  unfold Inv
  iintro ⟨⟨Hr, T0, T1, T2, T3, T4, %q, %z, %hk, S0, S1⟩, Ho, H0, H1, H2, H3⟩
  iapply (sound c Set.univ (grid0.coords t) _ _ _ _ _ _ _ _ _ _ _ _ _ _ _ _ _ _ _ _ _ _ (tb0 m) (tb1 m) (tb2 m) (tb3 m) (tb4 m) (dyb m hO c t) (wb m hO c t) (wsb m hO c t) Y3 q z _)
  isplitl [T0]; · iexact T0
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [S0]; · iexact S0
  isplitl [S1]; · iexact S1
  rw [out_eq m hO c t Y3 q z hk]
  iintro ⟨T0, T1, T2, T3, T4, H0, H1, H2, H3, S0, S1⟩
  isplitl [Hr T0 T1 T2 T3 T4 S0 S1]
  · isplitl [Hr]; · iexact Hr
    isplitl [T0]; · iexact T0
    isplitl [T1]; · iexact T1
    isplitl [T2]; · iexact T2
    isplitl [T3]; · iexact T3
    isplitl [T4]; · iexact T4
    iexists _; iexists _
    isplitr
    · ipureintro; exact kept_succ m hO c t q z hk
    isplitl [S0]; · iexact S0
    iexact S1
  isplitl [Ho]; · iexact Ho
  isplitl [H0]; · iexact H0
  isplitl [H1]; · iexact H1
  isplitl [H2]; · iexact H2
  iexact H3

theorem body_obligation (c : Dev nD) : (rdat m hO c).BodyObligation (defs₀ (F := F)) Variants.none () Set.univ := fun t Y hY => by
  rw [bigSep_W0, bigSep_W0, defs₀_row]
  have h0 := finds0 m hO c t _ (hY 0)
  have h1 := finds1 m hO c t _ (hY 1)
  have h2 := finds2 m hO c t _ (hY 2)
  rw [h0, h1, h2]
  refine triple_restated (sound_body m hO c t (Y 3)) rfl .rfl fun _ => ?_
  iintro ⟨HΦ, Ho, H0, H1, H2, H3⟩
  isplitl [HΦ]; · iexact HΦ
  isplitl [Ho]; · iexact Ho
  isplitl [H0]
  · iexists _; isplitr; swap; · iexact H0
    ipureintro; exact (after0 m hO c t _ _).mpr rfl
  isplitl [H1]
  · iexists _; isplitr; swap; · iexact H1
    ipureintro; exact (after1 m hO c t _ _).mpr rfl
  isplitl [H2]
  · iexists _; isplitr; swap; · iexact H2
    ipureintro; exact (after2 m hO c t _ _).mpr rfl
  iexists _; isplitr; swap; · iexact H3
  ipureintro; exact (after3 m hO c t _ _).mpr rfl

end Cert.Kernel.Hand
-- ==== Proof.RunK3.lean ====
/-
  The launch: what every run of the program ends in.
-/
module

public import proofs.«01_k».proof.Proof.RunK2
public import Idealize.ShloMosaic.Lib.ValueIdxCore

@[expose] public section

set_option synthInstance.maxSize 4096
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)
open Idealize.ShloMosaic.ValueIdx (ix1)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

theorem of_pt (c : Thread nD τ) (b : Ref sig c.2.kind) (q : PosShare TreeShare) (f : b.ty.Contents (Elt F)) :
    ((c.loc b) ↦{q} f : sProp 𝕄) ⊢ owns c (Memref.whole b) q f := by rw [owns_whole]
theorem to_pt (c : Thread nD τ) (b : Ref sig c.2.kind) (q : PosShare TreeShare) (f : b.ty.Contents (Elt F)) :
    (owns c (Memref.whole b) q f : sProp 𝕄) ⊢ ((c.loc b) ↦{q} f) := by rw [owns_whole]

theorem inv_in (c : Dev nD) : iprop(Pipeline.ΦA (U := UR sig nD τ) (Val := Elt F) spec0 c ∗ Pipeline.ΦT pre0 (tbl m) c) ⊢ ((rdat m hO c).Φ 0 : sProp 𝕄) := by
  rw [PhiT0_eq, show (rdat m hO c).Φ 0 = Inv m hO c 0 from rfl]
  unfold Pipeline.ΦA Inv
  rw [scopedRest0_eq]
  iintro ⟨⟨⟨⟨%f0, S0⟩, ⟨%f1, S1⟩⟩, Hr⟩, T0, T1, T2, T3, T4⟩
  isplitl [Hr]; · iexact Hr
  isplitl [T0]; · iapply (of_pt (c : Thread nD τ) main_v42 fullShare.right (tbl m 0)); iexact T0
  isplitl [T1]; · iapply (of_pt (c : Thread nD τ) main_v25 fullShare.right (tbl m 1)); iexact T1
  isplitl [T2]; · iapply (of_pt (c : Thread nD τ) main_v49 fullShare.right (tbl m 2)); iexact T2
  isplitl [T3]; · iapply (of_pt (c : Thread nD τ) main_v56 fullShare.right (tbl m 3)); iexact T3
  isplitl [T4]; · iapply (of_pt (c : Thread nD τ) main_v57 fullShare.right (tbl m 4)); iexact T4
  iexists f0; iexists f1
  isplitr
  · ipureintro; intro u hu; exact absurd hu (Nat.succ_ne_zero _)
  isplitl [S0]; · iapply (of_pt (c : Thread nD τ) cc0_scratch0 fullShare f0); iexact S0
  iapply (of_pt (c : Thread nD τ) cc0_scratch1 fullShare f1); iexact S1

theorem inv_out (c : Dev nD) : ((rdat m hO c).Φ (Fin.last (cfgM m hO).N) : sProp 𝕄) ⊢ Pipeline.ΦA (U := UR sig nD τ) (Val := Elt F) spec0 c := by
  rw [show (rdat m hO c).Φ (Fin.last (cfgM m hO).N) = Inv m hO c (Fin.last (cfgM m hO).N) from rfl]
  unfold Pipeline.ΦA Inv
  rw [scopedRest0_eq]
  iintro ⟨Hr, T0, T1, T2, T3, T4, %q, %z, %hk, S0, S1⟩
  isplitr [Hr]
  · isplitl [S0]
    · iexists q; iapply (to_pt (c : Thread nD τ) cc0_scratch0 fullShare q); iexact S0
    iexists z; iapply (to_pt (c : Thread nD τ) cc0_scratch1 fullShare z); iexact S1
  iexact Hr

set_option backward.isDefEq.respectTransparency.types false in
set_option maxHeartbeats 1600000 in
/-- Every run ends with the arrays in the proof data's relation, every other buffer as the region found it, and all counters at zero. -/
theorem run_main : θ_run defs (onTc (τ := τ) (main (F := F))) (s₀ m ρ) (fun r => Pipeline.RDat.FramePost (cfgM m hO) (rdat m hO) (V m) r ∧ r.2.sem = fun _ => 0) :=
  Pipeline.RDat.θ_run_frameP_track (Q' := _) (hQ' := fun _ h => h) pcfgs (fun _ => adm m hO) (0 : Fin 1) launch0 defs₀ Variants.none (rdat m hO) m ρ main
    (hbody := fun c => body_obligation m hO c) (hshare := fun c => fun w => (rdat m hO c).share_full (fun _ => rfl) w)
    (howed := fun _ _ => rfl) (V := V m) (hmain := hmain m Variants.none) (hA := A_eq m hO) (hpf := fun c k => V_pre m c k)
    (hin := inv_in m hO) (hout := inv_out m hO)

/-- A run's end leaves the argument arrays as launched. -/
theorem kept_args (r : PUnit × MemSt nD τ sig (Elt F)) (h : Pipeline.RDat.FramePost (cfgM m hO) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((A_eq m hO c 0).trans (V_main_arg0 m c)),
   ((h c).2 main_arg1 (by decide : main_arg1 ∈ Pipeline.restRefs sig spec0)).trans (V_main_arg1 m c),
   (Pipeline.RDat.FramePost.arr_in h c 1 rfl).trans ((A_eq m hO c 1).trans (V_main_arg2 m c)),
   ((h c).2 main_arg3 (by decide : main_arg3 ∈ Pipeline.restRefs sig spec0)).trans (V_main_arg3 m c)⟩

include hO in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept_args m hO r h.1 c, h.2⟩) (run_main m ρ hO)

end Cert.Kernel.Hand
-- ==== Proof.BodyI.lean ====
/-
  The kernel's body at one grid point: what it leaves in the scratch buffers and in the output's staging buffer, from what it finds.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option synthInstance.maxSize 4096
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The words the body reads off the tables -/

/-- The place that point `i` reads off a table. -/
abbrev rHere (i : grid0.Coords) : Rect S79 := Rect.unit (s := S79) (k0_off1 i) S1.size (k0_off1_inb i)
/-- The place before it (the first place at the first point). -/
abbrev rPrev (i : grid0.Coords) : Rect S79 := Rect.unit (s := S79) (k0_off2 i) S1.size (k0_off2_inb i)
/-- The one place of the table with one word. -/
abbrev rOne : Rect S1 := Rect.unit (s := S1) ![0] S1.size inb_S1_S1_0

abbrev wHere (x : Vec F S79 .i32) (i : grid0.Coords) : BitVec 32 := View.ld x (rHere i) (Shape.Idx.first (numel1_S1.symm ▸ Nat.one_pos))
abbrev wPrev (x : Vec F S79 .i32) (i : grid0.Coords) : BitVec 32 := View.ld x (rPrev i) (Shape.Idx.first (numel1_S1.symm ▸ Nat.one_pos))
abbrev wOne (x : Vec F S1 .i32) : BitVec 32 := View.ld x rOne (Shape.Idx.first (numel1_S1.symm ▸ Nat.one_pos))

/-- The body's first condition: the item is used and its tile is not the one before. -/
def fresh (i : grid0.Coords) (x1 : Vec F S79 .i32) (x5 : Vec F S1 .i32) : Prop :=
  Scalar.cmpi .ne (Scalar.extui (Scalar.andi (Scalar.cmpi .slt (BitVec.ofNat 32 (i 0).val) (wOne x5))
    (Scalar.ori (Scalar.cmpi .eq (BitVec.ofNat 32 (i 0).val) 0#32) (Scalar.cmpi .ne (wPrev x1 i) (wHere x1 i)))) : BitVec 32) 0#32 = 1#1
/-- The body's second condition: the item is used. -/
def live (i : grid0.Coords) (x5 : Vec F S1 .i32) : Prop := k0_cond2 i (wOne x5) = 1#1

instance (i : grid0.Coords) (x1 : Vec F S79 .i32) (x5 : Vec F S1 .i32) : Decidable (fresh i x1 x5) := by unfold fresh; infer_instance
instance (i : grid0.Coords) (x5 : Vec F S1 .i32) : Decidable (live i x5) := by unfold live; infer_instance

/-! ## The accesses and what is stored -/

abbrev rDy : Rect S512x1536 := Rect.unit (s := S512x1536) ![0, 0] S512x1536.size inb_S512x1536_S512x1536_0_0
abbrev rSc : Rect S512x128 := Rect.unit (s := S512x128) ![0, 0] S512x128.size inb_S512x128_S512x128_0_0
abbrev rSc1 : Rect S512x128 := Rect.unit (s := S512x128) ![0, 0] S512x1.size inb_S512x128_S512x1_0_0
abbrev rW0 : Rect S1x7168x1536 := Rect.unit (s := S1x7168x1536) ![0, 0, 0] S1x1792x1536.size inb_S1x7168x1536_S1x1792x1536_0_0_0
abbrev rW1 : Rect S1x7168x1536 := Rect.unit (s := S1x7168x1536) ![0, 1792, 0] S1x1792x1536.size inb_S1x7168x1536_S1x1792x1536_0_1792_0
abbrev rW2 : Rect S1x7168x1536 := Rect.unit (s := S1x7168x1536) ![0, 3584, 0] S1x1792x1536.size inb_S1x7168x1536_S1x1792x1536_0_3584_0
abbrev rW3 : Rect S1x7168x1536 := Rect.unit (s := S1x7168x1536) ![0, 5376, 0] S1x1792x1536.size inb_S1x7168x1536_S1x1792x1536_0_5376_0
abbrev rS0 : Rect S1x1x7168 := Rect.unit (s := S1x1x7168) ![0, 0, 0] S1x1x1792.size inb_S1x1x7168_S1x1x1792_0_0_0
abbrev rS1 : Rect S1x1x7168 := Rect.unit (s := S1x1x7168) ![0, 0, 1792] S1x1x1792.size inb_S1x1x7168_S1x1x1792_0_0_1792
abbrev rS2 : Rect S1x1x7168 := Rect.unit (s := S1x1x7168) ![0, 0, 3584] S1x1x1792.size inb_S1x1x7168_S1x1x1792_0_0_3584
abbrev rS3 : Rect S1x1x7168 := Rect.unit (s := S1x1x7168) ![0, 0, 5376] S1x1x1792.size inb_S1x1x7168_S1x1x1792_0_0_5376
abbrev rO0 : Rect S512x7168 := Rect.unit (s := S512x7168) ![0, 0] S512x1792.size inb_S512x7168_S512x1792_0_0
abbrev rO1 : Rect S512x7168 := Rect.unit (s := S512x7168) ![0, 1792] S512x1792.size inb_S512x7168_S512x1792_0_1792
abbrev rO2 : Rect S512x7168 := Rect.unit (s := S512x7168) ![0, 3584] S512x1792.size inb_S512x7168_S512x1792_0_3584
abbrev rO3 : Rect S512x7168 := Rect.unit (s := S512x7168) ![0, 5376] S512x1792.size inb_S512x7168_S512x1792_0_5376

/-- The codes stored for a block of rows. -/
def codes (x6 : Vec F S512x1536 .bf16) : Vec F S512x1536 .fp8e5m2 := k0_pay1 (Scalar.ofBits .bf16 0x4760#16) (k0_pay6 (View.ld x6 rDy))
/-- The scales stored for a block of rows, repeated across the lanes. -/
def scales (x6 : Vec F S512x1536 .bf16) : Vec F S512x128 .f32 := k0_pay2 (k0_pay5 (View.ld x6 rDy))

/-- The four column chunks that a point stores. -/
def chunk0 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay8 v1 v3 v5 (View.ld q rDy) (View.ld x7 rW0) (View.ld z rSc1) (View.ld x8 rS0) (View.ld Y rO0)
def chunk1 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay10 (k0_pay7 (F := F) v1 v3 v5) (k0_pay9 (View.ld q rDy) (View.ld x7 rW1) (View.ld z rSc1)) (View.ld x8 rS1) (View.ld Y rO1)
def chunk2 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay11 (k0_pay7 (F := F) v1 v3 v5) (View.ld q rDy) (View.ld x7 rW2) (View.ld z rSc1) (View.ld x8 rS2) (View.ld Y rO2)
def chunk3 (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : FVec F S512x1792 .bf16 :=
  k0_pay3 (k0_pay7 (F := F) v1 v3 v5) (View.ld q rDy) (k0_pay12 (View.ld x7 rW3)) (View.ld z rSc1) (View.ld x8 rS3) (View.ld Y rO3)

/-- The output's buffer after a used point. -/
def stepOut (v1 v3 v5 : BitVec 32) (x7 : Vec F S1x7168x1536 .fp8e4m3) (x8 : Vec F S1x1x7168 .f32) (Y : Vec F S512x7168 .bf16)
    (q : Vec F S512x1536 .fp8e5m2) (z : Vec F S512x128 .f32) : Vec F S512x7168 .bf16 :=
  View.canon [⟨rO3, chunk3 v1 v3 v5 x7 x8 Y q z⟩, ⟨rO2, chunk2 v1 v3 v5 x7 x8 Y q z⟩, ⟨rO1, chunk1 v1 v3 v5 x7 x8 Y q z⟩, ⟨rO0, chunk0 v1 v3 v5 x7 x8 Y q z⟩]

theorem cover (p0 p1 p2 p3 : Vec F S512x1792 .bf16) (y : S512x7168.Idx) :
    ∃ pc ∈ ([⟨rO3, p3⟩, ⟨rO2, p2⟩, ⟨rO1, p1⟩, ⟨rO0, p0⟩] : List (View.Piece (Elt F) S512x7168 .bf16)), y ∈ pc.1.set :=
  View.cover_of_tiled [⟨rO3, p3⟩, ⟨rO2, p2⟩, ⟨rO1, p1⟩, ⟨rO0, p0⟩] S512x1792.size (by rfl) y

/-- The codes, the scales and the output's buffer after the point. -/
def codesAfter (i : grid0.Coords) (x1 : Vec F S79 .i32) (x5 : Vec F S1 .i32) (x6 : Vec F S512x1536 .bf16) (q : Vec F S512x1536 .fp8e5m2) : Vec F S512x1536 .fp8e5m2 :=
  if fresh i x1 x5 then codes x6 else q
def scalesAfter (i : grid0.Coords) (x1 : Vec F S79 .i32) (x5 : Vec F S1 .i32) (x6 : Vec F S512x1536 .bf16) (z : Vec F S512x128 .f32) : Vec F S512x128 .f32 :=
  if fresh i x1 x5 then scales x6 else z
def outAfter (i : grid0.Coords) (x1 x3 x4 : Vec F S79 .i32) (x5 : Vec F S1 .i32) (x6 : Vec F S512x1536 .bf16) (x7 : Vec F S1x7168x1536 .fp8e4m3) (x8 : Vec F S1x1x7168 .f32)
    (Y : Vec F S512x7168 .bf16) (q : Vec F S512x1536 .fp8e5m2) (z : Vec F S512x128 .f32) : Vec F S512x7168 .bf16 :=
  if live i x5 then stepOut (wHere x1 i) (wHere x3 i) (wHere x4 i) x7 x8 Y (codesAfter i x1 x5 x6 q) (scalesAfter i x1 x5 x6 z) else Y

theorem read_whole_write (v : View sig .tc .vmem S512x1536 .fp8e5m2) (f) (p : Vec F S512x1536 .fp8e5m2) :
    v.read (Elt F) (v.writes (Elt F) f [⟨rDy, p⟩]) = p := by
  rw [View.read_writes_eq_canon v f _ (fun y => View.cover_of_tiled [⟨rDy, p⟩] S512x1536.size (by rfl) y)]
  exact View.canon_unit_zero (by funext a; fin_cases a <;> rfl) _ _
theorem read_whole_write' (v : View sig .tc .vmem S512x128 .f32) (f) (p : Vec F S512x128 .f32) :
    v.read (Elt F) (v.writes (Elt F) f [⟨rSc, p⟩]) = p := by
  rw [View.read_writes_eq_canon v f _ (fun y => View.cover_of_tiled [⟨rSc, p⟩] S512x128.size (by rfl) y)]
  exact View.canon_unit_zero (by funext a; fin_cases a <;> rfl) _ _

set_option maxHeartbeats 2000000 in
theorem sound (c : Dev nD) (E : Set ℕ) (i : grid0.Coords) (arg1 : Memref sig .tc .smem S79 .i32) (harg1 : arg1.IsWhole) (arg2 : Memref sig .tc .smem S79 .i32) (harg2 : arg2.IsWhole) (arg3 : Memref sig .tc .smem S79 .i32) (harg3 : arg3.IsWhole) (arg4 : Memref sig .tc .smem S79 .i32) (harg4 : arg4.IsWhole) (arg5 : Memref sig .tc .smem S1 .i32) (harg5 : arg5.IsWhole) (arg6 : Memref sig .tc .vmem S512x1536 .bf16) (harg6 : arg6.IsWhole) (arg7 : Memref sig .tc .vmem S1x7168x1536 .fp8e4m3) (harg7 : arg7.IsWhole) (arg8 : Memref sig .tc .vmem S1x1x7168 .f32) (harg8 : arg8.IsWhole) (arg9 : Memref sig .tc .vmem S512x7168 .bf16) (harg9 : arg9.IsWhole) (arg10 : Memref sig .tc .vmem S512x1536 .fp8e5m2) (harg10 : arg10.IsWhole) (arg11 : Memref sig .tc .vmem S512x128 .f32) (harg11 : arg11.IsWhole)
    (x1 x2 x3 x4 : Vec F S79 .i32) (x5 : Vec F S1 .i32) (x6 : Vec F S512x1536 .bf16) (x7 : Vec F S1x7168x1536 .fp8e4m3) (x8 : Vec F S1x1x7168 .f32)
    (Y : Vec F S512x7168 .bf16) (q : Vec F S512x1536 .fp8e5m2) (z : Vec F S512x128 .f32) (K : PUnit → sProp 𝕄) :
    iprop(owns (c : Thread nD τ) arg1 fullShare.right x1 ∗ owns (c : Thread nD τ) arg2 fullShare.right x2 ∗ owns (c : Thread nD τ) arg3 fullShare.right x3 ∗ owns (c : Thread nD τ) arg4 fullShare.right x4
        ∗ owns (c : Thread nD τ) arg5 fullShare.right x5 ∗ owns (c : Thread nD τ) arg6 fullShare x6 ∗ owns (c : Thread nD τ) arg7 fullShare x7 ∗ owns (c : Thread nD τ) arg8 fullShare x8
        ∗ owns (c : Thread nD τ) arg9 fullShare Y ∗ owns (c : Thread nD τ) arg10 fullShare q ∗ owns (c : Thread nD τ) arg11 fullShare z
        ∗ (iprop(owns (c : Thread nD τ) arg1 fullShare.right x1 ∗ owns (c : Thread nD τ) arg2 fullShare.right x2 ∗ owns (c : Thread nD τ) arg3 fullShare.right x3 ∗ owns (c : Thread nD τ) arg4 fullShare.right x4
        ∗ owns (c : Thread nD τ) arg5 fullShare.right x5 ∗ owns (c : Thread nD τ) arg6 fullShare x6 ∗ owns (c : Thread nD τ) arg7 fullShare x7 ∗ owns (c : Thread nD τ) arg8 fullShare x8
        ∗ owns (c : Thread nD τ) arg9 fullShare (outAfter i x1 x3 x4 x5 x6 x7 x8 Y q z) ∗ owns (c : Thread nD τ) arg10 fullShare (codesAfter i x1 x5 x6 q) ∗ owns (c : Thread nD τ) arg11 fullShare (scalesAfter i x1 x5 x6 z)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf1 hf2 hf3 hf4 hf5 hf6 hf7 hf8 hf9 hf10 hf11
  sl_exec
  sl_step
  have h10 : View.read (Elt F) arg10.view (if hc : fresh i (View.read (Elt F) arg1.view f1) (View.read (Elt F) arg5.view f5) then
        arg10.view.writes (Elt F) f10 [⟨rDy, codes (View.read (Elt F) arg6.view f6)⟩] else f10)
      = codesAfter i (View.read (Elt F) arg1.view f1) (View.read (Elt F) arg5.view f5) (View.read (Elt F) arg6.view f6) (View.read (Elt F) arg10.view f10) := by
    unfold codesAfter
    by_cases h : fresh i (View.read (Elt F) arg1.view f1) (View.read (Elt F) arg5.view f5)
    · rw [dif_pos h, if_pos h]; exact read_whole_write arg10.view f10 _
    · rw [dif_neg h, if_neg h]
  have h11 : View.read (Elt F) arg11.view (if hc : fresh i (View.read (Elt F) arg1.view f1) (View.read (Elt F) arg5.view f5) then
        arg11.view.writes (Elt F) f11 [⟨rSc, scales (View.read (Elt F) arg6.view f6)⟩] else f11)
      = scalesAfter i (View.read (Elt F) arg1.view f1) (View.read (Elt F) arg5.view f5) (View.read (Elt F) arg6.view f6) (View.read (Elt F) arg11.view f11) := by
    unfold scalesAfter
    by_cases h : fresh i (View.read (Elt F) arg1.view f1) (View.read (Elt F) arg5.view f5)
    · rw [dif_pos h, if_pos h]; exact read_whole_write' arg11.view f11 _
    · rw [dif_neg h, if_neg h]
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists _; isplitr
    swap; · iexact H9
    ipureintro
    unfold outAfter
    by_cases h : live i (View.read (Elt F) arg5.view f5)
    · rw [if_pos h]
      refine (congrArg _ (dif_pos h)).trans ?_
      refine (View.read_writes_eq_canon _ _ _ (cover _ _ _ _)).trans ?_
      unfold stepOut chunk0 chunk1 chunk2 chunk3
      rw [← h10, ← h11]
      rfl
    · rw [if_neg h]
      exact congrArg _ (dif_neg h)
  isplitl [H10]
  · iexists _; isplitr
    swap; · iexact H10
    ipureintro
    exact h10
  iexists _; isplitr
  swap; · iexact H11
  ipureintro
  exact h11

end Cert.KernelIdeal.Hand
-- ==== Proof.RunI.lean ====
/-
  The run of the kernel's pipeline: the tables as the host operations leave them, the proof data, the body's obligation and the launch.
-/
module

public import proofs.«01_k».proof.Proof.BodyI

@[expose] public section

set_option synthInstance.maxSize 4096
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 1600000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables' contents when the region is entered. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
/-- Every block of every window lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S79 .i32 := Memref.whole main_v42
abbrev tbM0_1 : Memref sig .tc .smem S79 .i32 := Memref.whole main_v25
abbrev tbM0_2 : Memref sig .tc .smem S79 .i32 := Memref.whole main_v49
abbrev tbM0_3 : Memref sig .tc .smem S79 .i32 := Memref.whole main_v56
abbrev tbM0_4 : Memref sig .tc .smem S1 .i32 := Memref.whole main_v57

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The tables as vectors of words. -/
def tb0 : Vec F S79 .i32 := tbl m 0
def tb1 : Vec F S79 .i32 := tbl m 1
def tb2 : Vec F S79 .i32 := tbl m 2
def tb3 : Vec F S79 .i32 := tbl m 3
def tb4 : Vec F S1 .i32 := tbl m 4

/-! ## The windows' blocks -/

variable (hO : Ok m)

/-- Window `w`'s block at point `t`, read off its array as the region finds it. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

def dyb (c : Dev nD) (t : Fin (cfgM m hO).N) : Vec F S512x1536 .bf16 := iblk m hO c 0 t
def wb (c : Dev nD) (t : Fin (cfgM m hO).N) : Vec F S1x7168x1536 .fp8e4m3 := iblk m hO c 1 t
def wsb (c : Dev nD) (t : Fin (cfgM m hO).N) : Vec F S1x1x7168 .f32 := iblk m hO c 2 t

/-- What the output's buffer holds after point `t` when it held `Y` before. -/
def outStep (c : Dev nD) (t : Fin (cfgM m hO).N) (Y : Vec F S512x7168 .bf16) : Vec F S512x7168 .bf16 :=
  if live (grid0.coords t) (tb4 m) then
    stepOut (wHere (tb0 m) (grid0.coords t)) (wHere (tb2 m) (grid0.coords t)) (wHere (tb3 m) (grid0.coords t)) (wb m hO c t) (wsb m hO c t) Y
      (codes (dyb m hO c t)) (scales (dyb m hO c t))
  else Y

/-- What the scratch buffers hold before point `t`: the codes and scales of the block of the point before it, when that point was used. -/
def Kept (c : Dev nD) (t : Fin ((cfgM m hO).N + 1)) (q : Vec F S512x1536 .fp8e5m2) (z : Vec F S512x128 .f32) : Prop :=
  ∀ u : Fin (cfgM m hO).N, u.val + 1 = t.val → live (grid0.coords u) (tb4 m) → q = codes (dyb m hO c u) ∧ z = scales (dyb m hO c u)

abbrev sc0 : Memref sig .tc .vmem S512x1536 .fp8e5m2 := Memref.whole cc0_scratch0
abbrev sc1 : Memref sig .tc .vmem S512x128 .f32 := Memref.whole cc0_scratch1

def Inv (c : Dev nD) (t : Fin ((cfgM m hO).N + 1)) : sProp 𝕄 :=
  iprop((∃ r, prngReg c r) ∗ owns (c : Thread nD τ) tbM0_0 fullShare.right (tb0 m) ∗ owns (c : Thread nD τ) tbM0_1 fullShare.right (tb1 m)
    ∗ owns (c : Thread nD τ) tbM0_2 fullShare.right (tb2 m) ∗ owns (c : Thread nD τ) tbM0_3 fullShare.right (tb3 m) ∗ owns (c : Thread nD τ) tbM0_4 fullShare.right (tb4 m)
    ∗ ∃ q z, ⌜Kept m hO c t q z⌝ ∗ owns (c : Thread nD τ) sc0 fullShare q ∗ owns (c : Thread nD τ) sc1 fullShare z)

/-- The proof data: the inputs' buffers stay, the output's goes through `outStep`. -/
def rdat (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => X = outStep m hO c t Y
  Φ t := Inv m hO c t
  q _ := fullShare
  owed _ := 0

theorem A_eq (c : Dev nD) (w : Fin (cfgM m hO).W) : (rdat m hO c).A w = V m c (Pipeline.arrRef spec0 w) := by
  dsimp only [rdat]

theorem after0 (c : Dev nD) (t) (Y X) : (rdat m hO c).after 0 t Y X ↔ X = Y := by dsimp only [rdat]; rfl
theorem after1 (c : Dev nD) (t) (Y X) : (rdat m hO c).after 1 t Y X ↔ X = Y := by dsimp only [rdat]; rfl
theorem after2 (c : Dev nD) (t) (Y X) : (rdat m hO c).after 2 t Y X ↔ X = Y := by dsimp only [rdat]; rfl
theorem after3 (c : Dev nD) (t) (Y X) : (rdat m hO c).after 3 t Y X ↔ X = outStep m hO c t Y := by dsimp only [rdat]; rfl

theorem finds0 (c : Dev nD) (t) (Y) (h : (rdat m hO c).Finds 0 t Y) : Y = dyb m hO c t := by
  obtain ⟨d, rfl⟩ := (rdat m hO c).finds_in_eq_fetched 0 rfl (fun _ _ _ => rfl) (fun t Y X h => (after0 m hO c t Y X).mp h) t Y h
  unfold RDat.fetched RDat.blockOf dyb iblk; rw [A_eq]; rfl
theorem finds1 (c : Dev nD) (t) (Y) (h : (rdat m hO c).Finds 1 t Y) : Y = wb m hO c t := by
  obtain ⟨d, rfl⟩ := (rdat m hO c).finds_in_eq_fetched 1 rfl (fun _ _ _ => rfl) (fun t Y X h => (after1 m hO c t Y X).mp h) t Y h
  unfold RDat.fetched RDat.blockOf wb iblk; rw [A_eq]; rfl
theorem finds2 (c : Dev nD) (t) (Y) (h : (rdat m hO c).Finds 2 t Y) : Y = wsb m hO c t := by
  obtain ⟨d, rfl⟩ := (rdat m hO c).finds_in_eq_fetched 2 rfl (fun _ _ _ => rfl) (fun t Y X h => (after2 m hO c t Y X).mp h) t Y h
  unfold RDat.fetched RDat.blockOf wsb iblk; rw [A_eq]; rfl

end Cert.KernelIdeal.Hand
-- ==== Proof.RunI2.lean ====
/-
  The body's obligation at every point, and the launch.
-/
module

public import proofs.«01_k».proof.Proof.RunI
public import Idealize.ShloMosaic.Lib.ValueIdxCore

@[expose] public section

set_option synthInstance.maxSize 4096
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)
open Idealize.ShloMosaic.ValueIdx (ix1)

variable {F : FTy → Type} [FloatOps F]

local notation "𝕄" => MT nD τ sig Unit (Elt F) ℕ (UR sig nD τ) ℕ

/-! ## The words read, by the point -/

theorem coords_val : ∀ t : Fin grid0.N, (grid0.coords t 0).val = t.val := by decide +kernel
theorem off1_val : ∀ t : Fin grid0.N, k0_off1 (grid0.coords t) 0 = t.val := by decide +kernel
theorem off2_val : ∀ t : Fin grid0.N, k0_off2 (grid0.coords t) 0 = t.val - 1 := by decide +kernel

theorem lt79 (t : Fin grid0.N) : t.val < 79 := N_0 ▸ t.isLt

theorem wHere_eq (x : Vec F S79 .i32) (t : Fin grid0.N) : wHere x (grid0.coords t) = x (ix1 ⟨t.val, lt79 t⟩) := by
  refine congrArg x ?_
  funext a
  obtain rfl : a = 0 := Subsingleton.elim _ _
  apply Fin.ext
  change k0_off1 (grid0.coords t) 0 + 1 * _ = t.val
  rw [off1_val]; rfl

theorem wPrev_eq (x : Vec F S79 .i32) (t : Fin grid0.N) : wPrev x (grid0.coords t) = x (ix1 ⟨t.val - 1, Nat.lt_of_le_of_lt (Nat.sub_le _ _) (lt79 t)⟩) := by
  refine congrArg x ?_
  funext a
  obtain rfl : a = 0 := Subsingleton.elim _ _
  apply Fin.ext
  change k0_off2 (grid0.coords t) 0 + 1 * _ = t.val - 1
  rw [off2_val]; rfl

theorem bit_ne_zero (b : BitVec 1) : (Scalar.cmpi .ne (Scalar.extui b : BitVec 32) 0#32 = 1#1) ↔ b = 1#1 := by
  revert b; decide

theorem and_bits (a b : BitVec 1) : Scalar.andi a b = 1#1 ↔ a = 1#1 ∧ b = 1#1 := by revert a b; decide
theorem or_bits (a b : BitVec 1) : Scalar.ori a b = 1#1 ↔ a = 1#1 ∨ b = 1#1 := by revert a b; decide

theorem slt_mono (a b : Nat) (w : BitVec 32) (h : a ≤ b) (hb : b < 79) (hw : Scalar.cmpi .slt (BitVec.ofNat 32 b) w = 1#1) :
    Scalar.cmpi .slt (BitVec.ofNat 32 a) w = 1#1 := by
  have ha : (BitVec.ofNat 32 a).toInt = a := by
    rw [BitVec.toInt_eq_toNat_of_lt (by simp only [BitVec.toNat_ofNat]; omega), BitVec.toNat_ofNat]; omega
  have hb' : (BitVec.ofNat 32 b).toInt = b := by
    rw [BitVec.toInt_eq_toNat_of_lt (by simp only [BitVec.toNat_ofNat]; omega), BitVec.toNat_ofNat]; omega
  have h1 := (WordCmp.cmpi_slt_eq (BitVec.ofNat 32 b) w).symm.trans hw
  refine (WordCmp.cmpi_slt_eq (BitVec.ofNat 32 a) w).trans ?_
  rw [WordCmp.ofBool_eq_one_iff, decide_eq_true_iff] at h1 ⊢
  omega

theorem live_iff (t : Fin grid0.N) (x5 : Vec F S1 .i32) : live (grid0.coords t) x5 ↔ Scalar.cmpi .slt (BitVec.ofNat 32 t.val) (wOne x5) = 1#1 := by
  unfold live k0_cond2
  rw [← coords_val t]
  exact bit_ne_zero _

theorem fresh_live (t : Fin grid0.N) (x1 : Vec F S79 .i32) (x5 : Vec F S1 .i32) (h : fresh (grid0.coords t) x1 x5) : live (grid0.coords t) x5 := by
  rw [live_iff]
  unfold fresh at h
  rw [bit_ne_zero, coords_val] at h
  exact (and_bits _ _).mp h |>.1

theorem not_fresh (t : Fin grid0.N) (x1 : Vec F S79 .i32) (x5 : Vec F S1 .i32) (h : ¬ fresh (grid0.coords t) x1 x5) (hl : live (grid0.coords t) x5) :
    t.val ≠ 0 ∧ wPrev x1 (grid0.coords t) = wHere x1 (grid0.coords t) := by
  rw [live_iff] at hl
  unfold fresh at h
  rw [bit_ne_zero, coords_val, and_bits, or_bits] at h
  have h' : ¬ (_ ∨ _) := fun x => h ⟨hl, x⟩
  rw [not_or] at h'
  refine ⟨fun h0 => h'.1 (by rw [h0]; rfl), ?_⟩
  by_contra hne
  exact h'.2 ((WordCmp.ofBool_eq_one_iff _).mpr (by simpa using hne))

/-- The windows' block numbers, by the words of the tables. -/
theorem tr0 (pf : pre0.Contents (Elt F)) (x : Vec F S79 .i32) (hx : pf 0 = x) (i : grid0.Coords) : cc0_transform_0 k0_off1_inb numel1_S1 pf i = ![(wHere x i).toNat, 0] := by subst hx; rfl
theorem tr1 (pf : pre0.Contents (Elt F)) (x : Vec F S79 .i32) (hx : pf 1 = x) (i : grid0.Coords) : cc0_transform_1 k0_off1_inb numel1_S1 pf i = ![(wHere x i).toNat, 0, 0] := by subst hx; rfl
theorem tr2 (pf : pre0.Contents (Elt F)) (x : Vec F S79 .i32) (hx : pf 1 = x) (i : grid0.Coords) : cc0_transform_2 k0_off1_inb numel1_S1 pf i = ![(wHere x i).toNat, 0, 0] := by subst hx; rfl
theorem tr3 (pf : pre0.Contents (Elt F)) (x : Vec F S79 .i32) (hx : pf 0 = x) (i : grid0.Coords) : cc0_transform_3 k0_off1_inb numel1_S1 pf i = ![(wHere x i).toNat, 0] := by subst hx; rfl

variable (m : (ℓ : Loc nD τ sig) → Buf (Elt F) ℓ) (ρ : Dev nD → PrngReg) (hO : Ok m)

theorem index0 (t : Fin (cfgM m hO).N) : ((cfgM m hO).win 0).index t = cc0_transform_0 k0_off1_inb numel1_S1 (tbl m) (grid0.coords t) := rfl
theorem index0_congr (t t' : Fin (cfgM m hO).N) (h : wHere (tb0 m) (grid0.coords t) = wHere (tb0 m) (grid0.coords t')) :
    ((cfgM m hO).win 0).index t = ((cfgM m hO).win 0).index t' := by
  rw [index0, index0, tr0 (tbl m) (tb0 m) rfl, tr0 (tbl m) (tb0 m) rfl, h]
theorem dyb_fetched (c : Dev nD) (d) (t : Fin (cfgM m hO).N) : (rdat m hO c).fetched 0 t d = dyb m hO c t := by
  unfold RDat.fetched RDat.blockOf dyb iblk; rw [A_eq]; rfl

/-- Two points with the same tile read the same block of rows. -/
theorem dyb_congr (c : Dev nD) (t t' : Fin (cfgM m hO).N) (h : wHere (tb0 m) (grid0.coords t) = wHere (tb0 m) (grid0.coords t')) :
    dyb m hO c t = dyb m hO c t' := by
  have e : ∀ t, (rdat m hO c).fetched 0 t (dyb m hO c t') = dyb m hO c t := dyb_fetched m hO c _
  exact (e t).symm.trans (((rdat m hO c).fetched_congr 0 (index0_congr m hO t t' h) rfl (dyb m hO c t')).trans (e t'))

theorem kept_codes (c : Dev nD) (t : Fin (cfgM m hO).N) (q z) (hk : Kept m hO c t.castSucc q z) (hl : live (grid0.coords t) (tb4 m)) :
    codesAfter (grid0.coords t) (tb0 m) (tb4 m) (dyb m hO c t) q = codes (dyb m hO c t)
      ∧ scalesAfter (grid0.coords t) (tb0 m) (tb4 m) (dyb m hO c t) z = scales (dyb m hO c t) := by
  unfold codesAfter scalesAfter
  by_cases hf : fresh (grid0.coords t) (tb0 m) (tb4 m)
  · rw [if_pos hf, if_pos hf]; exact ⟨rfl, rfl⟩
  · rw [if_neg hf, if_neg hf]
    obtain ⟨h0, hw⟩ := not_fresh t _ _ hf hl
    have hu : t.val - 1 < (cfgM m hO).N := Nat.lt_of_le_of_lt (Nat.sub_le _ _) t.isLt
    have e : dyb m hO c ⟨t.val - 1, hu⟩ = dyb m hO c t := dyb_congr m hO c _ _ (by rw [← hw, wPrev_eq, wHere_eq])
    rw [← e]
    refine hk ⟨t.val - 1, hu⟩ (by simp only [Fin.val_castSucc]; omega) ?_
    exact (live_iff ⟨t.val - 1, hu⟩ _).mpr (slt_mono _ _ _ (Nat.sub_le _ _) (lt79 t) ((live_iff t _).mp hl))

theorem kept_succ (c : Dev nD) (t : Fin (cfgM m hO).N) (q z) (hk : Kept m hO c t.castSucc q z) :
    Kept m hO c t.succ (codesAfter (grid0.coords t) (tb0 m) (tb4 m) (dyb m hO c t) q) (scalesAfter (grid0.coords t) (tb0 m) (tb4 m) (dyb m hO c t) z) := by
  intro u hu hl
  obtain rfl : u = t := Fin.ext (by simpa using hu)
  exact kept_codes m hO c u q z hk hl

theorem out_eq (c : Dev nD) (t : Fin (cfgM m hO).N) (Y q z) (hk : Kept m hO c t.castSucc q z) :
    outAfter (grid0.coords t) (tb0 m) (tb2 m) (tb3 m) (tb4 m) (dyb m hO c t) (wb m hO c t) (wsb m hO c t) Y q z = outStep m hO c t Y := by
  unfold outAfter outStep
  by_cases hl : live (grid0.coords t) (tb4 m)
  · rw [if_pos hl, if_pos hl, (kept_codes m hO c t q z hk hl).1, (kept_codes m hO c t q z hk hl).2]
  · rw [if_neg hl, if_neg hl]

/-! ## The body's obligation -/

abbrev st0 (t : Fin (cfgM m hO).N) := ((cfgM m hO).win 0).stage ((cfgM m hO).slots t 0)
abbrev st1 (t : Fin (cfgM m hO).N) := ((cfgM m hO).win 1).stage ((cfgM m hO).slots t 1)
abbrev st2 (t : Fin (cfgM m hO).N) := ((cfgM m hO).win 2).stage ((cfgM m hO).slots t 2)
abbrev st3 (t : Fin (cfgM m hO).N) := ((cfgM m hO).win 3).stage ((cfgM m hO).slots t 3)

abbrev bodyAt (t : Fin (cfgM m hO).N) : Prog (TpuEff nD τ sig (Elt F) Λ₀ .tc) PUnit :=
  cc0__body (grid0.coords t) (Memref.whole main_v42) (Memref.isWhole_whole _) (Memref.whole main_v25) (Memref.isWhole_whole _) (Memref.whole main_v49) (Memref.isWhole_whole _) (Memref.whole main_v56) (Memref.isWhole_whole _) (Memref.whole main_v57) (Memref.isWhole_whole _)
    (spec0_0.stage ((cfgM m hO).slots t 0)) (hstage0_0 (((cfgM m hO).slots t 0).cast nbuf0_0)) (spec0_1.stage ((cfgM m hO).slots t 1)) (hstage0_1 (((cfgM m hO).slots t 1).cast nbuf0_1))
    (spec0_2.stage ((cfgM m hO).slots t 2)) (hstage0_2 (((cfgM m hO).slots t 2).cast nbuf0_2)) (spec0_3.stage ((cfgM m hO).slots t 3)) (hstage0_3 (((cfgM m hO).slots t 3).cast nbuf0_3))
    (Memref.whole cc0_scratch0) (Memref.isWhole_whole _) (Memref.whole cc0_scratch1) (Memref.isWhole_whole _)

theorem defs₀_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 2000000 in
theorem sound_body (c : Dev nD) (t : Fin (cfgM m hO).N) (Y3 : Vec F S512x7168 .bf16) :
    iprop((rdat m hO c).Φ t.castSucc ∗ (rdat m hO c).owesAt () t.castSucc
      ∗ owns (c : Thread nD τ) (st0 m hO t) fullShare (dyb m hO c t) ∗ owns (c : Thread nD τ) (st1 m hO t) fullShare (wb m hO c t)
      ∗ owns (c : Thread nD τ) (st2 m hO t) fullShare (wsb m hO c t) ∗ owns (c : Thread nD τ) (st3 m hO t) fullShare Y3)
    ⊢ wp frame (wpE (defs₀ (F := F)) Variants.none c none) Set.univ (bodyAt m hO t) (fun _ =>
      iprop((rdat m hO c).Φ t.succ ∗ (rdat m hO c).owesAt () t.succ
      ∗ owns (c : Thread nD τ) (st0 m hO t) fullShare (dyb m hO c t) ∗ owns (c : Thread nD τ) (st1 m hO t) fullShare (wb m hO c t)
      ∗ owns (c : Thread nD τ) (st2 m hO t) fullShare (wsb m hO c t) ∗ owns (c : Thread nD τ) (st3 m hO t) fullShare (outStep m hO c t Y3))) := by
  rw [show (rdat m hO c).Φ t.succ = Inv m hO c t.succ from rfl, show (rdat m hO c).Φ t.castSucc = Inv m hO c t.castSucc from rfl,
    show (rdat m hO c).owesAt () t.succ = (rdat m hO c).owesAt () t.castSucc from rfl]
  unfold Inv
  iintro ⟨⟨Hr, T0, T1, T2, T3, T4, %q, %z, %hk, S0, S1⟩, Ho, H0, H1, H2, H3⟩
  iapply (sound c Set.univ (grid0.coords t) _ _ _ _ _ _ _ _ _ _ _ _ _ _ _ _ _ _ _ _ _ _ (tb0 m) (tb1 m) (tb2 m) (tb3 m) (tb4 m) (dyb m hO c t) (wb m hO c t) (wsb m hO c t) Y3 q z _)
  isplitl [T0]; · iexact T0
  isplitl [T1]; · iexact T1
  isplitl [T2]; · iexact T2
  isplitl [T3]; · iexact T3
  isplitl [T4]; · iexact T4
  isplitl [H0]; · iexact H0
  isplitl [H1]; · iexact H1
  isplitl [H2]; · iexact H2
  isplitl [H3]; · iexact H3
  isplitl [S0]; · iexact S0
  isplitl [S1]; · iexact S1
  rw [out_eq m hO c t Y3 q z hk]
  iintro ⟨T0, T1, T2, T3, T4, H0, H1, H2, H3, S0, S1⟩
  isplitl [Hr T0 T1 T2 T3 T4 S0 S1]
  · isplitl [Hr]; · iexact Hr
    isplitl [T0]; · iexact T0
    isplitl [T1]; · iexact T1
    isplitl [T2]; · iexact T2
    isplitl [T3]; · iexact T3
    isplitl [T4]; · iexact T4
    iexists _; iexists _
    isplitr
    · ipureintro; exact kept_succ m hO c t q z hk
    isplitl [S0]; · iexact S0
    iexact S1
  isplitl [Ho]; · iexact Ho
  isplitl [H0]; · iexact H0
  isplitl [H1]; · iexact H1
  isplitl [H2]; · iexact H2
  iexact H3

theorem body_obligation (c : Dev nD) : (rdat m hO c).BodyObligation (defs₀ (F := F)) Variants.none () Set.univ := fun t Y hY => by
  rw [bigSep_W0, bigSep_W0, defs₀_row]
  have h0 := finds0 m hO c t _ (hY 0)
  have h1 := finds1 m hO c t _ (hY 1)
  have h2 := finds2 m hO c t _ (hY 2)
  rw [h0, h1, h2]
  refine triple_restated (sound_body m hO c t (Y 3)) rfl .rfl fun _ => ?_
  iintro ⟨HΦ, Ho, H0, H1, H2, H3⟩
  isplitl [HΦ]; · iexact HΦ
  isplitl [Ho]; · iexact Ho
  isplitl [H0]
  · iexists _; isplitr; swap; · iexact H0
    ipureintro; exact (after0 m hO c t _ _).mpr rfl
  isplitl [H1]
  · iexists _; isplitr; swap; · iexact H1
    ipureintro; exact (after1 m hO c t _ _).mpr rfl
  isplitl [H2]
  · iexists _; isplitr; swap; · iexact H2
    ipureintro; exact (after2 m hO c t _ _).mpr rfl
  iexists _; isplitr; swap; · iexact H3
  ipureintro; exact (after3 m hO c t _ _).mpr rfl

end Cert.KernelIdeal.Hand
-- ==== Proof.RunI3.lean ====
/-
  The launch: what every run of the program ends in.
-/
module

public import proofs.«01_k».proof.Proof.RunI2
public import Idealize.ShloMosaic.Lib.ValueIdxCore

@[expose] public section

set_option synthInstance.maxSize 4096
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg PCfg Window Grid RDat)
open Idealize.ShloMosaic.ValueIdx (ix1)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

theorem of_pt (c : Thread nD τ) (b : Ref sig c.2.kind) (q : PosShare TreeShare) (f : b.ty.Contents (Elt F)) :
    ((c.loc b) ↦{q} f : sProp 𝕄) ⊢ owns c (Memref.whole b) q f := by rw [owns_whole]
theorem to_pt (c : Thread nD τ) (b : Ref sig c.2.kind) (q : PosShare TreeShare) (f : b.ty.Contents (Elt F)) :
    (owns c (Memref.whole b) q f : sProp 𝕄) ⊢ ((c.loc b) ↦{q} f) := by rw [owns_whole]

theorem inv_in (c : Dev nD) : iprop(Pipeline.ΦA (U := UR sig nD τ) (Val := Elt F) spec0 c ∗ Pipeline.ΦT pre0 (tbl m) c) ⊢ ((rdat m hO c).Φ 0 : sProp 𝕄) := by
  rw [PhiT0_eq, show (rdat m hO c).Φ 0 = Inv m hO c 0 from rfl]
  unfold Pipeline.ΦA Inv
  rw [scopedRest0_eq]
  iintro ⟨⟨⟨⟨%f0, S0⟩, ⟨%f1, S1⟩⟩, Hr⟩, T0, T1, T2, T3, T4⟩
  isplitl [Hr]; · iexact Hr
  isplitl [T0]; · iapply (of_pt (c : Thread nD τ) main_v42 fullShare.right (tbl m 0)); iexact T0
  isplitl [T1]; · iapply (of_pt (c : Thread nD τ) main_v25 fullShare.right (tbl m 1)); iexact T1
  isplitl [T2]; · iapply (of_pt (c : Thread nD τ) main_v49 fullShare.right (tbl m 2)); iexact T2
  isplitl [T3]; · iapply (of_pt (c : Thread nD τ) main_v56 fullShare.right (tbl m 3)); iexact T3
  isplitl [T4]; · iapply (of_pt (c : Thread nD τ) main_v57 fullShare.right (tbl m 4)); iexact T4
  iexists f0; iexists f1
  isplitr
  · ipureintro; intro u hu; exact absurd hu (Nat.succ_ne_zero _)
  isplitl [S0]; · iapply (of_pt (c : Thread nD τ) cc0_scratch0 fullShare f0); iexact S0
  iapply (of_pt (c : Thread nD τ) cc0_scratch1 fullShare f1); iexact S1

theorem inv_out (c : Dev nD) : ((rdat m hO c).Φ (Fin.last (cfgM m hO).N) : sProp 𝕄) ⊢ Pipeline.ΦA (U := UR sig nD τ) (Val := Elt F) spec0 c := by
  rw [show (rdat m hO c).Φ (Fin.last (cfgM m hO).N) = Inv m hO c (Fin.last (cfgM m hO).N) from rfl]
  unfold Pipeline.ΦA Inv
  rw [scopedRest0_eq]
  iintro ⟨Hr, T0, T1, T2, T3, T4, %q, %z, %hk, S0, S1⟩
  isplitr [Hr]
  · isplitl [S0]
    · iexists q; iapply (to_pt (c : Thread nD τ) cc0_scratch0 fullShare q); iexact S0
    iexists z; iapply (to_pt (c : Thread nD τ) cc0_scratch1 fullShare z); iexact S1
  iexact Hr

set_option backward.isDefEq.respectTransparency.types false in
set_option maxHeartbeats 1600000 in
/-- Every run ends with the arrays in the proof data's relation, every other buffer as the region found it, and all counters at zero. -/
theorem run_main : θ_run defs (onTc (τ := τ) (main (F := F))) (s₀ m ρ) (fun r => Pipeline.RDat.FramePost (cfgM m hO) (rdat m hO) (V m) r ∧ r.2.sem = fun _ => 0) :=
  Pipeline.RDat.θ_run_frameP_track (Q' := _) (hQ' := fun _ h => h) pcfgs (fun _ => adm m hO) (0 : Fin 1) launch0 defs₀ Variants.none (rdat m hO) m ρ main
    (hbody := fun c => body_obligation m hO c) (hshare := fun c => fun w => (rdat m hO c).share_full (fun _ => rfl) w)
    (howed := fun _ _ => rfl) (V := V m) (hmain := hmain m Variants.none) (hA := A_eq m hO) (hpf := fun c k => V_pre m c k)
    (hin := inv_in m hO) (hout := inv_out m hO)

/-- A run's end leaves the argument arrays as launched. -/
theorem kept_args (r : PUnit × MemSt nD τ sig (Elt F)) (h : Pipeline.RDat.FramePost (cfgM m hO) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((A_eq m hO c 0).trans (V_main_arg0 m c)),
   ((h c).2 main_arg1 (by decide : main_arg1 ∈ Pipeline.restRefs sig spec0)).trans (V_main_arg1 m c),
   (Pipeline.RDat.FramePost.arr_in h c 1 rfl).trans ((A_eq m hO c 1).trans (V_main_arg2 m c)),
   ((h c).2 main_arg3 (by decide : main_arg3 ∈ Pipeline.restRefs sig spec0)).trans (V_main_arg3 m c)⟩

include hO in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => kept_args m hO r h.1 c, h.2⟩) (run_main m ρ hO)

end Cert.KernelIdeal.Hand
-- ==== Proof.Items.lean ====
/-
  The list of work items as arithmetic on natural numbers. Sixteen experts own consecutive runs of rows; the rows are cut into tiles of 512; an item is a pair of an
  expert and a tile that the expert's run meets. `s e` is the number of rows of expert `e`.
-/
module

public import Mathlib.Data.Nat.Count
public import Mathlib.Tactic.Ring
public import Mathlib.Algebra.BigOperators.Group.List.Basic

@[expose] public section

namespace Cert.Items

/-- The sum `f 0 + … + f e`. -/
def cum (f : Nat → Nat) (e : Nat) : Nat := ((List.range (e + 1)).map f).sum

theorem cum_zero (f : Nat → Nat) : cum f 0 = f 0 := by simp [cum]

theorem cum_succ (f : Nat → Nat) (e : Nat) : cum f (e + 1) = cum f e + f (e + 1) := by
  unfold cum; rw [List.range_succ, List.map_append, List.sum_append]; simp

theorem cum_mono (f : Nat → Nat) {a b : Nat} (h : a ≤ b) : cum f a ≤ cum f b := by
  induction b, h using Nat.le_induction with
  | base => exact le_refl _
  | succ b _ ih => rw [cum_succ]; omega

theorem le_cum (f : Nat → Nat) (e : Nat) : f e ≤ cum f e := by
  cases e with
  | zero => rw [cum_zero]
  | succ e => rw [cum_succ]; omega

theorem cum_before (f : Nat → Nat) {q e : Nat} (h : q < e) : cum f q ≤ cum f e - f e := by
  obtain ⟨k, rfl⟩ : ∃ k, e = k + 1 := ⟨e - 1, by omega⟩
  rw [cum_succ]
  have := cum_mono f (show q ≤ k by omega)
  omega

/-- A place among the partial sums: below sixteen, there is one whose run holds `x`. -/
theorem exists_run (f : Nat → Nat) {x : Nat} (hx : x < cum f 15) : ∃ e, e < 16 ∧ cum f e - f e ≤ x ∧ x < cum f e := by
  classical
  have hex : ∃ e, x < cum f e := ⟨15, hx⟩
  refine ⟨Nat.find hex, ?_, ?_, Nat.find_spec hex⟩
  · have := Nat.find_min' hex hx; omega
  · generalize hk : Nat.find hex = k
    cases k with
    | zero => rw [cum_zero]; omega
    | succ k =>
      have h1 : ¬ x < cum f k := Nat.find_min hex (by omega)
      rw [cum_succ]; omega

theorem count_eq {Q : Nat → Prop} [DecidablePred Q] {e : Nat} (he : e ≤ 16) (h : ∀ q, q < 16 → (Q q ↔ q < e)) : Nat.count Q 16 = e := by
  rw [Nat.count_eq_card_filter_range]
  have : (Finset.range 16).filter Q = Finset.range e := by
    ext q
    rw [Finset.mem_filter, Finset.mem_range, Finset.mem_range]
    constructor
    · rintro ⟨a, b⟩; exact (h q a).1 b
    · intro a; have : q < 16 := by omega
      exact ⟨this, (h q this).2 a⟩
  rw [this, Finset.card_range]

/-- Counting the partial sums that do not pass `x` gives the run that holds `x`. -/
theorem count_run (f : Nat → Nat) {x e : Nat} (he : e < 16) (h1 : cum f e - f e ≤ x) (h2 : x < cum f e) :
    Nat.count (fun q => cum f q ≤ x) 16 = e := by
  refine count_eq (by omega) fun q _ => ⟨fun h => ?_, fun h => ?_⟩
  · by_contra hc
    have := cum_mono f (show e ≤ q by omega)
    omega
  · exact le_trans (cum_before f h) h1

variable (s : Nat → Nat)

/-- First tile of expert `e`. -/
def first (e : Nat) : Nat := (cum s e - s e) / 512
/-- Number of tiles of expert `e`. -/
def cnt (e : Nat) : Nat := if 0 < s e then (cum s e - 1) / 512 - first s e + 1 else 0
/-- Number of items. -/
def total : Nat := cum (cnt s) 15
/-- The item that place `t` stands for (the last one repeats). -/
def item (t : Nat) : Nat := min t (total s - 1)
/-- Its expert. -/
def expert (t : Nat) : Nat := Nat.count (fun q => cum (cnt s) q ≤ item s t) 16
/-- Its tile. -/
def tile (t : Nat) : Nat := first s (expert s t) + item s t - (cum (cnt s) (expert s t) - cnt s (expert s t))
/-- First row of the item's expert. -/
def start (t : Nat) : Nat := cum s (expert s t) - s (expert s t)
/-- One past the last row of the item's expert. -/
def stop (t : Nat) : Nat := cum s (expert s t)

theorem cum_cnt_le (e : Nat) : cum (cnt s) e ≤ (cum s e + 511) / 512 + e := by
  induction e with
  | zero =>
    rw [cum_zero, cum_zero]
    unfold cnt first
    rw [cum_zero]
    split <;> omega
  | succ e ih =>
    rw [cum_succ]
    unfold cnt first
    rw [cum_succ]
    unfold cnt first at ih
    split <;> omega

variable (hs : cum s 15 = 32768)
include hs

theorem total_le : total s ≤ 79 := by
  have := cum_cnt_le s 15
  rw [hs] at this
  unfold total; omega

theorem total_pos : 0 < total s := by
  obtain ⟨e, he, h1, h2⟩ := exists_run s (x := 0) (by omega)
  have h3 := le_cum (cnt s) e
  have h4 := cum_mono (cnt s) (show e ≤ 15 by omega)
  have h5 : 0 < cnt s e := by unfold cnt; rw [if_pos (by omega)]; omega
  unfold total; omega

theorem item_lt (t : Nat) : item s t < cum (cnt s) 15 := by
  have := total_pos s hs
  unfold item; unfold total at *; omega

/-- The item lies in its expert's run of items. -/
theorem expert_spec (t : Nat) : expert s t < 16 ∧ cum (cnt s) (expert s t) - cnt s (expert s t) ≤ item s t ∧ item s t < cum (cnt s) (expert s t) := by
  obtain ⟨e, he, h1, h2⟩ := exists_run (cnt s) (item_lt s hs t)
  have : expert s t = e := count_run (cnt s) he h1 h2
  rw [this]; exact ⟨he, h1, h2⟩

theorem expert_lt (t : Nat) : expert s t < 16 := (expert_spec s hs t).1

theorem size_pos (t : Nat) : 0 < s (expert s t) := by
  obtain ⟨_, h1, h2⟩ := expert_spec s hs t
  by_contra hc
  have : cnt s (expert s t) = 0 := by unfold cnt; rw [if_neg hc]
  omega

/-- The tile is one that the expert's run meets. -/
theorem tile_range (t : Nat) : first s (expert s t) ≤ tile s t ∧ tile s t ≤ (cum s (expert s t) - 1) / 512 := by
  obtain ⟨_, h1, h2⟩ := expert_spec s hs t
  have h3 := size_pos s hs t
  have h4 : cnt s (expert s t) = (cum s (expert s t) - 1) / 512 - first s (expert s t) + 1 := by
    conv_lhs => unfold cnt
    rw [if_pos h3]
  have h5 : first s (expert s t) ≤ (cum s (expert s t) - 1) / 512 := by
    unfold first; exact Nat.div_le_div_right (by omega)
  unfold tile
  omega

theorem tile_lt (t : Nat) : tile s t < 64 := by
  have h := (tile_range s hs t).2
  have h1 := cum_mono s (show expert s t ≤ 15 by have := expert_lt s hs t; omega)
  rw [hs] at h1
  omega

theorem tile_mono {t u : Nat} (h : t ≤ u) : tile s t ≤ tile s u := by
  have hi : item s t ≤ item s u := by unfold item; omega
  obtain ⟨a1, a2, a3⟩ := expert_spec s hs t
  obtain ⟨b1, b2, b3⟩ := expert_spec s hs u
  have ht := tile_range s hs t
  have hu := tile_range s hs u
  rcases Nat.lt_trichotomy (expert s t) (expert s u) with hlt | heq | hgt
  · have h1 := cum_before s hlt
    have h2 : (cum s (expert s t) - 1) / 512 ≤ first s (expert s u) := by
      unfold first; exact Nat.div_le_div_right (by omega)
    omega
  · unfold tile; rw [heq]; rw [heq] at a2; omega
  · have h1 := cum_before (cnt s) hgt
    omega

/-- Every row has an item that covers it. -/
theorem covered {r : Nat} (hr : r < 32768) : ∃ t, t < total s ∧ tile s t = r / 512 ∧ start s t ≤ r ∧ r < stop s t := by
  obtain ⟨e, he, h1, h2⟩ := exists_run s (x := r) (by omega)
  have hpos : 0 < s e := by omega
  have hc : cnt s e = (cum s e - 1) / 512 - first s e + 1 := by
    conv_lhs => unfold cnt
    rw [if_pos hpos]
  have hf : first s e ≤ r / 512 := by unfold first; exact Nat.div_le_div_right h1
  have hl : r / 512 ≤ (cum s e - 1) / 512 := Nat.div_le_div_right (by omega)
  have hC := le_cum (cnt s) e
  have hC' := cum_mono (cnt s) (show e ≤ 15 by omega)
  have hlt : cum (cnt s) e - cnt s e + (r / 512 - first s e) < cum (cnt s) e := by omega
  have hi : item s (cum (cnt s) e - cnt s e + (r / 512 - first s e)) = cum (cnt s) e - cnt s e + (r / 512 - first s e) := by
    unfold item total; omega
  have hx : expert s (cum (cnt s) e - cnt s e + (r / 512 - first s e)) = e := by
    unfold expert; rw [hi]; exact count_run (cnt s) he (by omega) hlt
  refine ⟨cum (cnt s) e - cnt s e + (r / 512 - first s e), ?_, ?_, ?_, ?_⟩
  · unfold total; omega
  · unfold tile; rw [hx, hi]; omega
  · unfold start; rw [hx]; exact h1
  · unfold stop; rw [hx]; exact h2

/-- The rows of an item belong to its expert. -/
theorem owner {t r : Nat} (h1 : start s t ≤ r) (h2 : r < stop s t) : Nat.count (fun q => cum s q ≤ r) 16 = expert s t :=
  count_run s (expert_lt s hs t) h1 h2

end Cert.Items
-- ==== Proof.Tables.lean ====
/-
  The tables of work items as the program computes them from the group sizes, each entry read as the word of the number that `Items` gives it.
-/
module

public import proofs.«01_k».proof.Proof.Items
public import Idealize.ShloMosaic.Lib.Routing.Resident
public import Idealize.ShloMosaic.Lib.Routing.OpsSearch

@[expose] public section

noncomputable section

namespace Cert.Tables

open Idealize.ShloMosaic Idealize.ShloMosaic.ValueIdx Idealize.ShloMosaic.WordCmp
open Idealize.ShloMosaic.Routing
open Cert.Items

/-- The side conditions the operations are printed under. -/
structure Sides : Prop where
  h0 : 0 < shape0.numel
  bc00 : shape0.BroadcastsInDim shape0 (![] : Fin 0 → Fin shape0.rank)
  bc16 : shape0.BroadcastsInDim (shape1 16) (![] : Fin 0 → Fin (shape1 16).rank)
  bc79 : shape0.BroadcastsInDim (shape1 79) (![] : Fin 0 → Fin (shape1 79).rank)
  bc1 : shape0.BroadcastsInDim (shape1 1) (![] : Fin 0 → Fin (shape1 1).rank)
  win : (shape1 16).ReduceWindows (![16] : Fin 1 → Nat) ![1] ![15] ![0] (shape1 16)
  slice : (shape1 16).Slices ![15] (shape1 1)
  cast : (shape1 1).ShapeCasts shape0
  col : (shape1 79).BroadcastsInDim (shape2 79 1) (![0] : Fin 1 → Fin (shape2 79 1).rank)
  colRect : (shape2 79 1).BroadcastsInDim (shape2 79 16) (![0, 1] : Fin 2 → Fin (shape2 79 16).rank)
  row : (shape1 16).BroadcastsInDim (shape2 1 16) (![1] : Fin 1 → Fin (shape2 1 16).rank)
  rowRect : (shape2 1 16).BroadcastsInDim (shape2 79 16) (![0, 1] : Fin 2 → Fin (shape2 79 16).rank)
  lt : 1 < 32
  red : (shape2 79 16).ReducesTo [1] (shape1 79)

variable (h : Sides) (x : IVec (shape1 16) 32)

def cumV (x : IVec (shape1 16) 32) : IVec (shape1 16) 32 :=
  Host.reduceWindow IntOp.addi ![16] ![1] ![15] ![0] x (broadcastInDim shape0 ![] h.bc00 (constantI shape0 32 0#32)) h.win h.h0
def endV : IVec (shape1 16) 32 := cumV h x
def startV : IVec (shape1 16) 32 := subi (endV h x) x
def firstV : IVec (shape1 16) 32 := pyDiv h.bc16 (startV h x) (constantI shape0 32 512#32)
def lastV : IVec (shape1 16) 32 :=
  pyDiv h.bc16 (subi (endV h x) (broadcastInDim (shape1 16) ![] h.bc16 (constantI shape0 32 1#32))) (constantI shape0 32 512#32)
def cntV : IVec (shape1 16) 32 :=
  select (cmpi .sgt x (broadcastInDim (shape1 16) ![] h.bc16 (constantI shape0 32 0#32)))
    (addi (subi (lastV h x) (firstV h x)) (broadcastInDim (shape1 16) ![] h.bc16 (constantI shape0 32 1#32)))
    (broadcastInDim (shape1 16) ![] h.bc16 (constantI shape0 32 0#32))
def totV : IVec (shape1 16) 32 := cumV h (cntV h x)
def nV : IVec shape0 32 := shapeCast shape0 (extractStridedSlice (shape1 1) ![15] (totV h x) h.slice) h.cast
def itemV : IVec (shape1 79) 32 :=
  minsi (iotaInDim (shape1 79) 32 0) (broadcastInDim (shape1 79) ![] h.bc79 (subi (nV h x) (constantI shape0 32 1#32)))
def expertV : IVec (shape1 79) 32 :=
  Host.reduce IntOp.addi (extui 32 (cmpi .sge
    (broadcastInDim (shape2 79 16) ![0, 1] h.colRect (broadcastInDim (shape2 79 1) ![0] h.col (itemV h x)))
    (broadcastInDim (shape2 79 16) ![0, 1] h.rowRect (broadcastInDim (shape2 1 16) ![1] h.row (totV h x)))) h.lt)
    (constantI shape0 32 0#32) h.red h.h0
def wrapV : IVec (shape2 79 1) 32 :=
  broadcastInDim (shape2 79 1) ![0] h.col
    (select (cmpi .slt (expertV h x) (broadcastInDim (shape1 79) ![] h.bc79 (constantI shape0 32 0#32)))
      (addi (expertV h x) (broadcastInDim (shape1 79) ![] h.bc79 (constantI shape0 32 16#32))) (expertV h x))

variable (d : GatherDims (shape1 16) (shape2 79 1) (shape1 79))

def tileV : IVec (shape1 79) 32 :=
  subi (addi (Host.gather d (firstV h x) (wrapV h x)) (itemV h x)) (Host.gather d (subi (totV h x) (cntV h x)) (wrapV h x))
def startsV : IVec (shape1 79) 32 := Host.gather d (startV h x) (wrapV h x)
def stopsV : IVec (shape1 79) 32 := Host.gather d (endV h x) (wrapV h x)
def totalV : IVec (shape1 1) 32 := broadcastInDim (shape1 1) ![] h.bc1 (nV h x)

/-! ## Read as numbers -/

variable (s : Nat → Nat) (hx : ∀ e : Fin 16, x (ix1 e) = BitVec.ofNat 32 (s e.val)) (hs : cum s 15 = 32768)

theorem cumV_ap (f : Nat → Nat) (v : IVec (shape1 16) 32) (hv : ∀ e : Fin 16, v (ix1 e) = BitVec.ofNat 32 (f e.val)) (e : Fin 16) :
    cumV h v (ix1 e) = BitVec.ofNat 32 (cum f e.val) := by
  unfold cumV
  exact cumsum1 (show 15 + 1 = 16 from rfl) v f hv _ (by rw [bc0]; rfl) h.win h.h0 e

include hs in
theorem cum_le (e : Fin 16) : cum s e.val ≤ 32768 := by
  have := cum_mono s (show e.val ≤ 15 by omega)
  omega

include hx in
theorem endV_ap (e : Fin 16) : endV h x (ix1 e) = BitVec.ofNat 32 (cum s e.val) := cumV_ap h s x hx e

include hx in
theorem startV_ap (e : Fin 16) : startV h x (ix1 e) = BitVec.ofNat 32 (cum s e.val - s e.val) := by
  unfold startV
  rw [subi_ap, endV_ap h x s hx e, hx e, ofNat32_sub (le_cum s e.val)]

include hx hs in
theorem firstV_ap (e : Fin 16) : firstV h x (ix1 e) = BitVec.ofNat 32 (first s e.val) := by
  have := cum_le s hs e
  unfold firstV first
  exact pyDiv_ap h.bc16 _ _ (ix1 e) (startV_ap h x s hx e) rfl (by omega) (by decide) (by decide)

include hx hs in
theorem lastV_ap (e : Fin 16) (hp : 0 < s e.val) : lastV h x (ix1 e) = BitVec.ofNat 32 ((cum s e.val - 1) / 512) := by
  have h1 := cum_le s hs e
  have h2 := le_cum s e.val
  unfold lastV
  refine pyDiv_ap h.bc16 _ _ (ix1 e) (a := cum s e.val - 1) ?_ rfl (by omega) (by decide) (by decide)
  rw [subi_ap, endV_ap h x s hx e, bc0]
  exact ofNat32_sub (by omega)

include hx hs in
theorem cntV_ap (e : Fin 16) : cntV h x (ix1 e) = BitVec.ofNat 32 (cnt s e.val) := by
  have h1 := cum_le s hs e
  have h2 := le_cum s e.val
  have hb : cmpi .sgt x (broadcastInDim (shape1 16) ![] h.bc16 (constantI shape0 32 0#32)) (ix1 e) = BitVec.ofBool (decide (0 < s e.val)) := by
    rw [cmpi_at, bc0, hx e, constantI_at]
    show BitVec.ofBool ((BitVec.ofNat 32 0).slt (BitVec.ofNat 32 (s e.val))) = _
    rw [slt_ofNat32 (by decide) (by omega)]
  unfold cntV cnt
  rw [select_at, hb]
  by_cases hp : 0 < s e.val
  · rw [select_decide, if_pos hp, if_pos hp, addi_ap, subi_ap, lastV_ap h x s hx hs e hp, firstV_ap h x s hx hs e, bc0]
    have h3 : first s e.val ≤ (cum s e.val - 1) / 512 := by unfold first; exact Nat.div_le_div_right (by omega)
    rw [ofNat32_sub h3]
    exact BitVec.ofNat_add_ofNat ..
  · rw [select_decide, if_neg hp, if_neg hp, bc0]
    rfl

include hx hs in
theorem totV_ap (e : Fin 16) : totV h x (ix1 e) = BitVec.ofNat 32 (cum (cnt s) e.val) :=
  cumV_ap h (cnt s) _ (cntV_ap h x s hx hs) e

include hx hs in
theorem nV_ap : nV h x ix0 = BitVec.ofNat 32 (total s) := by
  unfold nV total
  have hc : shapeCast shape0 (extractStridedSlice (shape1 1) ![15] (totV h x) h.slice) h.cast ix0
      = extractStridedSlice (shape1 1) ![15] (totV h x) h.slice (ix1 (0 : Fin 1)) := by
    unfold shapeCast
    refine congrArg _ (funext fun a => ?_)
    match a with
    | ⟨0, _⟩ => exact Subsingleton.elim (α := Fin 1) _ _
  rw [hc, slice1 15 _ h.slice (0 : Fin 1) (by decide)]
  exact totV_ap h x s hx hs ⟨15, by decide⟩

include hx hs in
theorem itemV_ap (t : Fin 79) : itemV h x (ix1 t) = BitVec.ofNat 32 (item s t.val) := by
  have h1 := total_le s hs
  have h2 := total_pos s hs
  unfold itemV item
  show (minsi (iotaInDim (shape1 79) 32 0) _) (ix1 t) = _
  have hb : broadcastInDim (shape1 79) ![] h.bc79 (subi (nV h x) (constantI shape0 32 1#32)) (ix1 t) = BitVec.ofNat 32 (total s - 1) := by
    rw [bc0, subi_ap, nV_ap h x s hx hs]
    exact ofNat32_sub h2
  show (if BitVec.slt (iotaInDim (shape1 79) 32 0 (ix1 t)) (broadcastInDim (shape1 79) ![] h.bc79 (subi (nV h x) (constantI shape0 32 1#32)) (ix1 t)) then _ else _) = _
  rw [hb, iota1_ap, slt_ofNat32 (by omega) (by omega)]
  by_cases hlt : t.val < total s - 1
  · rw [if_pos (by simpa using hlt), Nat.min_eq_left (by omega)]
  · rw [if_neg (by simpa using hlt), Nat.min_eq_right (by omega)]

include hx hs in
theorem expertV_ap (t : Fin 79) : expertV h x (ix1 t) = BitVec.ofNat 32 (expert s t.val) := by
  have h1 := total_le s hs
  unfold expertV expert
  refine reduce_count (by decide) _ h.lt h.red h.h0 t (fun q => cum (cnt s) q ≤ item s t.val) fun q => ?_
  have hq := cum_mono (cnt s) (show q.val ≤ 15 by omega)
  unfold total at h1
  have hi := item_lt s hs t.val
  rw [cmpi_at, bcRows, bcCols, itemV_ap h x s hx hs t, totV_ap h x s hx hs q]
  show BitVec.ofBool ((BitVec.ofNat 32 (cum (cnt s) q.val)).sle (BitVec.ofNat 32 (item s t.val))) = 1#1 ↔ _
  rw [sle_ofNat32 (by omega) (by omega)]
  by_cases hc : cum (cnt s) q.val ≤ item s t.val <;> simp [hc]

include hx hs in
theorem wrapV_ap (t : Fin 79) : wrapV h x (ix2 t (0 : Fin 1)) = BitVec.ofNat 32 (expert s t.val) := by
  have he := expert_lt s hs t.val
  unfold wrapV
  rw [bcCol, select_at, cmpi_at, expertV_ap h x s hx hs t, bc0, constantI_at, show (0#32 : BitVec 32) = BitVec.ofNat 32 0 from rfl,
    cmpi_slt_ofNat (w := 32) (by omega) (by decide), select_decide, if_neg (Nat.not_lt_zero _)]

variable (hcoll : d.collapsedSliceDims = [0]) (hob : d.operandBatchingDims = []) (hsim : d.startIndexMap = [0]) (hivd : d.indexVectorDim = 1)
include hx hs hcoll hob hsim hivd

theorem take_expert (v : IVec (shape1 16) 32) (f : Nat → Nat) (hv : ∀ e : Fin 16, v (ix1 e) = BitVec.ofNat 32 (f e.val)) (t : Fin 79) :
    Host.gather d v (wrapV h x) (ix1 t) = BitVec.ofNat 32 (f (expert s t.val)) := by
  have he := expert_lt s hs t.val
  rw [take_ap d hcoll hob hsim hivd v (wrapV h x) t he (by omega) (wrapV_ap h x s hx hs t)]
  exact hv ⟨_, he⟩

theorem tileV_ap (t : Fin 79) : tileV h x d (ix1 t) = BitVec.ofNat 32 (tile s t.val) := by
  have he := expert_spec s hs t.val
  unfold tileV tile
  rw [subi_ap, addi_ap, take_expert h x d s hx hs hcoll hob hsim hivd _ _ (firstV_ap h x s hx hs) t, itemV_ap h x s hx hs t,
    take_expert h x d s hx hs hcoll hob hsim hivd _ (fun e => cum (cnt s) e - cnt s e) (fun e => by
      rw [subi_ap, totV_ap h x s hx hs e, cntV_ap h x s hx hs e, ofNat32_sub (le_cum _ _)]) t, BitVec.ofNat_add_ofNat]
  exact ofNat32_sub (by omega)

theorem startsV_ap (t : Fin 79) : startsV h x d (ix1 t) = BitVec.ofNat 32 (start s t.val) := by
  unfold startsV start
  exact take_expert h x d s hx hs hcoll hob hsim hivd _ (fun e => cum s e - s e) (startV_ap h x s hx) t

theorem stopsV_ap (t : Fin 79) : stopsV h x d (ix1 t) = BitVec.ofNat 32 (stop s t.val) := by
  unfold stopsV stop
  exact take_expert h x d s hx hs hcoll hob hsim hivd _ (cum s) (endV_ap h x s hx) t

omit hcoll hob hsim hivd in
theorem totalV_ap : totalV h x (ix1 (0 : Fin 1)) = BitVec.ofNat 32 (total s) := by
  unfold totalV
  rw [bc0, nV_ap h x s hx hs]

end Cert.Tables
-- ==== Proof.HostK.lean ====
/-
  What the host operations leave in the prefetched tables, and that with sizes filling the rows every block lies inside its array.
-/
module

public import proofs.«01_k».proof.Proof.RunK2
public import proofs.«01_k».proof.Proof.Tables
public import Idealize.ShloMosaic.Lib.StableHlo.RunRead

@[expose] public section

set_option synthInstance.maxSize 4096
set_option maxRecDepth 16384

noncomputable section

namespace Cert.Kernel.Hand

open Cert.Kernel.Gen Cert.Items
open Idealize.ShloMosaic Idealize.ShloMosaic.TcCoe Idealize.ShloMosaic.Tactic Idealize.ShloMosaic.ValueIdx

variable {F : FTy → Type} [FloatOps F]

theorem sides : Cert.Tables.Sides where
  h0 := h_S_
  bc00 := bcast_S_S_
  bc16 := bcast_S_S16
  bc79 := bcast_S_S79
  bc1 := bcast_S_S1
  win := reduceWindows_S16_S16_w16s1p15_0
  slice := slices_S16_S1_15
  cast := shapeCasts_S1_S_
  col := bcast_S79_S79x1_0
  colRect := bcast_S79x1_S79x16_0_1
  row := bcast_S16_S1x16_1
  rowRect := bcast_S1x16_S79x16_0_1
  lt := natLt_1_32
  red := reducesTo_S79x16_S79_d1

variable (m : (ℓ : Loc nD τ sig) → Buf (Elt F) ℓ)

/-- The group sizes. -/
abbrev gs : IVec S16 32 := m ((0 : Dev nD), main_arg1)

/-! ## The buffers after each stretch of host operations -/

def U0 : Valuation τ sig (Elt F) := StableHlo.after hostOps0 (fun b => m ((0 : Dev nD), b))
def U1 : Valuation τ sig (Elt F) := StableHlo.after hostOps0_1 (U0 m)
def U2 : Valuation τ sig (Elt F) := StableHlo.after hostOps0_2 (U1 m)
def U3 : Valuation τ sig (Elt F) := StableHlo.after hostOps0_3 (U2 m)
def U4 : Valuation τ sig (Elt F) := StableHlo.after hostOps0_4 (U3 m)
def U5 : Valuation τ sig (Elt F) := StableHlo.after hostOps0_5 (U4 m)
def U6 : Valuation τ sig (Elt F) := StableHlo.after hostOps0_6 (U5 m)
def U7 : Valuation τ sig (Elt F) := StableHlo.after hostOps0_7 (U6 m)

theorem U0_arg1 : U0 m main_arg1 = gs m := by
  unfold U0
  after_reads_simp

theorem U0_arg3 : U0 m main_arg3 = m ((0 : Dev nD), main_arg3) := by
  unfold U0
  after_reads_simp

theorem U0_v0 : U0 m main_v0 = Cert.Tables.endV sides (gs m) := by
  unfold U0
  after_reads_simp
  simp -implicitDefEqProofs only [StableHlo.TRef.toBuf, StableHlo.TRef.ofBuf, cast_cast, cast_eq]
  rfl

theorem U1_arg1 : U1 m main_arg1 = gs m := by
  unfold U1
  after_reads_simp
  exact U0_arg1 m

theorem U1_arg3 : U1 m main_arg3 = m ((0 : Dev nD), main_arg3) := by
  unfold U1
  after_reads_simp
  exact U0_arg3 m

theorem U1_v0 : U1 m main_v0 = Cert.Tables.endV sides (gs m) := by
  unfold U1
  after_reads_simp
  exact U0_v0 m

theorem U1_v1 : U1 m main_v1 = Cert.Tables.startV sides (gs m) := by
  unfold U1
  after_reads_simp
  rw [U0_v0 m, U0_arg1 m]
  rfl

theorem U1_c : U1 m main_c = constantI S_ 32 512#32 := by
  unfold U1
  after_reads_simp

theorem U2_arg1 : U2 m main_arg1 = gs m := by
  unfold U2
  after_reads_simp
  exact U1_arg1 m

theorem U2_arg3 : U2 m main_arg3 = m ((0 : Dev nD), main_arg3) := by
  unfold U2
  after_reads_simp
  exact U1_arg3 m

theorem U2_v0 : U2 m main_v0 = Cert.Tables.endV sides (gs m) := by
  unfold U2
  after_reads_simp
  exact U1_v0 m

theorem U2_v1 : U2 m main_v1 = Cert.Tables.startV sides (gs m) := by
  unfold U2
  after_reads_simp
  exact U1_v1 m

theorem U2_v2 : U2 m main_v2 = Cert.Tables.firstV sides (gs m) := by
  unfold U2
  after_reads_simp
  rw [U1_v1 m, U1_c m]
  simp -implicitDefEqProofs only [StableHlo.TRef.toBuf, StableHlo.TRef.ofBuf, cast_cast, cast_eq]
  rfl

theorem U3_arg1 : U3 m main_arg1 = gs m := by
  unfold U3
  after_reads_simp
  exact U2_arg1 m

theorem U3_arg3 : U3 m main_arg3 = m ((0 : Dev nD), main_arg3) := by
  unfold U3
  after_reads_simp
  exact U2_arg3 m

theorem U3_v0 : U3 m main_v0 = Cert.Tables.endV sides (gs m) := by
  unfold U3
  after_reads_simp
  exact U2_v0 m

theorem U3_v1 : U3 m main_v1 = Cert.Tables.startV sides (gs m) := by
  unfold U3
  after_reads_simp
  exact U2_v1 m

theorem U3_v2 : U3 m main_v2 = Cert.Tables.firstV sides (gs m) := by
  unfold U3
  after_reads_simp
  exact U2_v2 m

theorem U3_v4 : U3 m main_v4 = cmpi .sgt (gs m) (broadcastInDim S16 ![] bcast_S_S16 (constantI S_ 32 0#32)) := by
  unfold U3
  after_reads_simp
  rw [U2_arg1 m]

theorem U3_v6 : U3 m main_v6 = subi (Cert.Tables.endV sides (gs m)) (broadcastInDim S16 ![] bcast_S_S16 (constantI S_ 32 1#32)) := by
  unfold U3
  after_reads_simp
  rw [U2_v0 m]

theorem U3_c_2 : U3 m main_c_2 = constantI S_ 32 512#32 := by
  unfold U3
  after_reads_simp

theorem U4_arg1 : U4 m main_arg1 = gs m := by
  unfold U4
  after_reads_simp
  exact U3_arg1 m

theorem U4_arg3 : U4 m main_arg3 = m ((0 : Dev nD), main_arg3) := by
  unfold U4
  after_reads_simp
  exact U3_arg3 m

theorem U4_v0 : U4 m main_v0 = Cert.Tables.endV sides (gs m) := by
  unfold U4
  after_reads_simp
  exact U3_v0 m

theorem U4_v1 : U4 m main_v1 = Cert.Tables.startV sides (gs m) := by
  unfold U4
  after_reads_simp
  exact U3_v1 m

theorem U4_v2 : U4 m main_v2 = Cert.Tables.firstV sides (gs m) := by
  unfold U4
  after_reads_simp
  exact U3_v2 m

theorem U4_v4 : U4 m main_v4 = cmpi .sgt (gs m) (broadcastInDim S16 ![] bcast_S_S16 (constantI S_ 32 0#32)) := by
  unfold U4
  after_reads_simp
  exact U3_v4 m

theorem U4_v7 : U4 m main_v7 = Cert.Tables.lastV sides (gs m) := by
  unfold U4
  after_reads_simp
  rw [U3_v6 m, U3_c_2 m]
  simp -implicitDefEqProofs only [StableHlo.TRef.toBuf, StableHlo.TRef.ofBuf, cast_cast, cast_eq]
  rfl

theorem U5_arg1 : U5 m main_arg1 = gs m := by
  unfold U5
  after_reads_simp
  exact U4_arg1 m

theorem U5_arg3 : U5 m main_arg3 = m ((0 : Dev nD), main_arg3) := by
  unfold U5
  after_reads_simp
  exact U4_arg3 m

theorem U5_v0 : U5 m main_v0 = Cert.Tables.endV sides (gs m) := by
  unfold U5
  after_reads_simp
  exact U4_v0 m

theorem U5_v1 : U5 m main_v1 = Cert.Tables.startV sides (gs m) := by
  unfold U5
  after_reads_simp
  exact U4_v1 m

theorem U5_v2 : U5 m main_v2 = Cert.Tables.firstV sides (gs m) := by
  unfold U5
  after_reads_simp
  exact U4_v2 m

theorem U5_v4 : U5 m main_v4 = cmpi .sgt (gs m) (broadcastInDim S16 ![] bcast_S_S16 (constantI S_ 32 0#32)) := by
  unfold U5
  after_reads_simp
  exact U4_v4 m

theorem U5_v10 : U5 m main_v10 = addi (subi (Cert.Tables.lastV sides (gs m)) (Cert.Tables.firstV sides (gs m))) (broadcastInDim S16 ![] bcast_S_S16 (constantI S_ 32 1#32)) := by
  unfold U5
  after_reads_simp
  rw [U4_v7 m, U4_v2 m]

theorem U5_c_4 : U5 m main_c_4 = constantI S_ 32 0#32 := by
  unfold U5
  after_reads_simp

theorem U6_arg1 : U6 m main_arg1 = gs m := by
  unfold U6
  after_reads_simp
  exact U5_arg1 m

theorem U6_arg3 : U6 m main_arg3 = m ((0 : Dev nD), main_arg3) := by
  unfold U6
  after_reads_simp
  exact U5_arg3 m

theorem U6_v0 : U6 m main_v0 = Cert.Tables.endV sides (gs m) := by
  unfold U6
  after_reads_simp
  exact U5_v0 m

theorem U6_v1 : U6 m main_v1 = Cert.Tables.startV sides (gs m) := by
  unfold U6
  after_reads_simp
  exact U5_v1 m

theorem U6_v2 : U6 m main_v2 = Cert.Tables.firstV sides (gs m) := by
  unfold U6
  after_reads_simp
  exact U5_v2 m

theorem U6_v11 : U6 m main_v11 = Cert.Tables.cntV sides (gs m) := by
  unfold U6
  after_reads_simp
  rw [U5_v4 m, U5_v10 m, U5_c_4 m]
  simp -implicitDefEqProofs only [StableHlo.TRef.toBuf, StableHlo.TRef.ofBuf, cast_cast, cast_eq]
  rfl

theorem U7_arg3 : U7 m main_arg3 = m ((0 : Dev nD), main_arg3) := by
  unfold U7
  after_reads_simp
  exact U6_arg3 m

theorem U7_v0 : U7 m main_v0 = Cert.Tables.endV sides (gs m) := by
  unfold U7
  after_reads_simp
  exact U6_v0 m

theorem U7_v1 : U7 m main_v1 = Cert.Tables.startV sides (gs m) := by
  unfold U7
  after_reads_simp
  exact U6_v1 m

theorem U7_v2 : U7 m main_v2 = Cert.Tables.firstV sides (gs m) := by
  unfold U7
  after_reads_simp
  exact U6_v2 m

theorem U7_v11 : U7 m main_v11 = Cert.Tables.cntV sides (gs m) := by
  unfold U7
  after_reads_simp
  exact U6_v11 m

theorem U7_v12 : U7 m main_v12 = Cert.Tables.totV sides (gs m) := by
  unfold U7
  after_reads_simp
  rw [U6_v11 m]
  simp -implicitDefEqProofs only [StableHlo.TRef.toBuf, StableHlo.TRef.ofBuf, cast_cast, cast_eq]
  rfl

theorem V_last (b : Ref sig .tc) : V m 0 b = StableHlo.after hostOps0_8 (U7 m) b := by
  unfold U7 U6 U5 U4 U3 U2 U1 U0
  rfl

theorem V_expert : V m 0 main_v25 = Cert.Tables.expertV sides (gs m) := by
  rw [V_last]
  after_reads_simp
  rw [U7_v12 m]
  rfl

theorem V_tile : V m 0 main_v42 = Cert.Tables.tileV sides (gs m) gather_S16_S79x1_S79_n_0_n_n_0_1_1 := by
  rw [V_last]
  after_reads_simp
  rw [U7_v12 m, U7_v11 m, U7_v2 m]
  rfl

theorem V_start : V m 0 main_v49 = Cert.Tables.startsV sides (gs m) gather_S16_S79x1_S79_n_0_n_n_0_1_1 := by
  rw [V_last]
  after_reads_simp
  rw [U7_v12 m, U7_v1 m]
  rfl

theorem V_stop : V m 0 main_v56 = Cert.Tables.stopsV sides (gs m) gather_S16_S79x1_S79_n_0_n_n_0_1_1 := by
  rw [V_last]
  after_reads_simp
  rw [U7_v12 m, U7_v0 m]
  rfl

theorem V_total : V m 0 main_v57 = Cert.Tables.totalV sides (gs m) := by
  rw [V_last]
  after_reads_simp
  rw [U7_v12 m]
  rfl

theorem V_scales : V m 0 main_v58 = broadcastInDim S16x1x7168 ![0, 2] bcast_S16x7168_S16x1x7168_0_2 (m ((0 : Dev nD), main_arg3)) := by
  rw [V_last]
  after_reads_simp
  rw [U7_arg3 m]

/-! ## The tables read as numbers -/

variable (s : Nat → Nat) (hx : ∀ e : Fin 16, gs m (ix1 e) = BitVec.ofNat 32 (s e.val)) (hs : cum s 15 = 32768)

include hx hs

theorem tb0_at (t : Fin 79) : tb0 m (ix1 t) = BitVec.ofNat 32 (tile s t.val) :=
  (congrFun (V_tile m) (ix1 t)).trans (Cert.Tables.tileV_ap sides (gs m) _ s hx hs rfl rfl rfl rfl t)
theorem tb1_at (t : Fin 79) : tb1 m (ix1 t) = BitVec.ofNat 32 (expert s t.val) :=
  (congrFun (V_expert m) (ix1 t)).trans (Cert.Tables.expertV_ap sides (gs m) s hx hs t)
theorem tb2_at (t : Fin 79) : tb2 m (ix1 t) = BitVec.ofNat 32 (start s t.val) :=
  (congrFun (V_start m) (ix1 t)).trans (Cert.Tables.startsV_ap sides (gs m) _ s hx hs rfl rfl rfl rfl t)
theorem tb3_at (t : Fin 79) : tb3 m (ix1 t) = BitVec.ofNat 32 (stop s t.val) :=
  (congrFun (V_stop m) (ix1 t)).trans (Cert.Tables.stopsV_ap sides (gs m) _ s hx hs rfl rfl rfl rfl t)
theorem tb4_at : tb4 m (ix1 (0 : Fin 1)) = BitVec.ofNat 32 (total s) :=
  (congrFun (V_total m) (ix1 (0 : Fin 1))).trans (Cert.Tables.totalV_ap sides (gs m) s hx hs)

omit hx hs in
theorem coords_surj (i : grid0.Coords) : ∃ t : Fin grid0.N, grid0.coords t = i :=
  ⟨⟨(i 0).val, (i 0).isLt⟩, funext fun a => match a with | ⟨0, _⟩ => Fin.ext (coords_val _)⟩

theorem where0 (t : Fin grid0.N) : (wHere (tb0 m) (grid0.coords t)).toNat = tile s t.val := by
  rw [wHere_eq, tb0_at m s hx hs ⟨t.val, lt79 t⟩]
  exact Nat.mod_eq_of_lt ((tile_lt s hs t.val).trans (by decide))
theorem where1 (t : Fin grid0.N) : (wHere (tb1 m) (grid0.coords t)).toNat = expert s t.val := by
  rw [wHere_eq, tb1_at m s hx hs ⟨t.val, lt79 t⟩]
  exact Nat.mod_eq_of_lt ((expert_lt s hs t.val).trans (by decide))

omit hx hs in
theorem block_ok (S A : Shape) (e : EltTy) (f : Fin A.rank → Nat) (size : Fin A.rank → Nat) (h : ∀ a, (f a + 1) * size a ≤ A.size a)
    (h2 : 2 ≤ A.rank) (hp : e.packing ∣ size (A.rowAx h2)) :
    ∃ h : (∀ a, (f a + 1) * size a ≤ A.size a), EltTy.bits e = 32 ∨ (Rect.block (s := A) size f h).WholeWords e.packing :=
  ⟨h, .inr (.inl (.inr ⟨h2, rfl, .inl ⟨(hp.mul_left _ : e.packing ∣ f _ * size _), hp⟩⟩))⟩

/-- With sizes that fill the rows, every block of every window lies inside its array. -/
theorem ok_of : Ok m := by
  refine ⟨fun i => ?_, fun i => ?_, fun i => ?_, fun i => ?_⟩
  · obtain ⟨t, rfl⟩ := coords_surj i
    have h0 := where0 m s hx hs t
    have h1 := tile_lt s hs t.val
    refine block_ok S512x1536 S32768x1536 .bf16 _ _ ?_ (by decide) (by decide)
    rw [tr0 (tbl m) (tb0 m) rfl]
    intro a
    match a with
    | ⟨0, _⟩ => show ((wHere (tb0 m) (grid0.coords t)).toNat + 1) * 512 ≤ 32768; omega
    | ⟨1, _⟩ => show (0 + 1) * 1536 ≤ 1536; omega
  · obtain ⟨t, rfl⟩ := coords_surj i
    have h0 := where1 m s hx hs t
    have h1 := expert_lt s hs t.val
    refine block_ok S1x7168x1536 S16x7168x1536 .fp8e4m3 _ _ ?_ (by decide) (by decide)
    rw [tr1 (tbl m) (tb1 m) rfl]
    intro a
    match a with
    | ⟨0, _⟩ => show ((wHere (tb1 m) (grid0.coords t)).toNat + 1) * 1 ≤ 16; omega
    | ⟨1, _⟩ => show (0 + 1) * 7168 ≤ 7168; omega
    | ⟨2, _⟩ => show (0 + 1) * 1536 ≤ 1536; omega
  · obtain ⟨t, rfl⟩ := coords_surj i
    have h0 := where1 m s hx hs t
    have h1 := expert_lt s hs t.val
    refine block_ok S1x1x7168 S16x1x7168 .f32 _ _ ?_ (by decide) (by decide)
    rw [tr2 (tbl m) (tb1 m) rfl]
    intro a
    match a with
    | ⟨0, _⟩ => show ((wHere (tb1 m) (grid0.coords t)).toNat + 1) * 1 ≤ 16; omega
    | ⟨1, _⟩ => show (0 + 1) * 1 ≤ 1; omega
    | ⟨2, _⟩ => show (0 + 1) * 7168 ≤ 7168; omega
  · obtain ⟨t, rfl⟩ := coords_surj i
    have h0 := where0 m s hx hs t
    have h1 := tile_lt s hs t.val
    refine block_ok S512x7168 S32768x7168 .bf16 _ _ ?_ (by decide) (by decide)
    rw [tr3 (tbl m) (tb0 m) rfl]
    intro a
    match a with
    | ⟨0, _⟩ => show ((wHere (tb0 m) (grid0.coords t)).toNat + 1) * 512 ≤ 32768; omega
    | ⟨1, _⟩ => show (0 + 1) * 7168 ≤ 7168; omega

end Cert.Kernel.Hand
-- ==== Proof.HostI.lean ====
/-
  What the host operations leave in the prefetched tables, and that with sizes filling the rows every block lies inside its array.
-/
module

public import proofs.«01_k».proof.Proof.RunI2
public import proofs.«01_k».proof.Proof.Tables
public import Idealize.ShloMosaic.Lib.StableHlo.RunRead

@[expose] public section

set_option synthInstance.maxSize 4096
set_option maxRecDepth 16384

noncomputable section

namespace Cert.KernelIdeal.Hand

open Cert.KernelIdeal.Gen Cert.Items
open Idealize.ShloMosaic Idealize.ShloMosaic.TcCoe Idealize.ShloMosaic.Tactic Idealize.ShloMosaic.ValueIdx

variable {F : FTy → Type} [FloatOps F]

theorem sides : Cert.Tables.Sides where
  h0 := h_S_
  bc00 := bcast_S_S_
  bc16 := bcast_S_S16
  bc79 := bcast_S_S79
  bc1 := bcast_S_S1
  win := reduceWindows_S16_S16_w16s1p15_0
  slice := slices_S16_S1_15
  cast := shapeCasts_S1_S_
  col := bcast_S79_S79x1_0
  colRect := bcast_S79x1_S79x16_0_1
  row := bcast_S16_S1x16_1
  rowRect := bcast_S1x16_S79x16_0_1
  lt := natLt_1_32
  red := reducesTo_S79x16_S79_d1

variable (m : (ℓ : Loc nD τ sig) → Buf (Elt F) ℓ)

/-- The group sizes. -/
abbrev gs : IVec S16 32 := m ((0 : Dev nD), main_arg1)

/-! ## The buffers after each stretch of host operations -/

def U0 : Valuation τ sig (Elt F) := StableHlo.after hostOps0 (fun b => m ((0 : Dev nD), b))
def U1 : Valuation τ sig (Elt F) := StableHlo.after hostOps0_1 (U0 m)
def U2 : Valuation τ sig (Elt F) := StableHlo.after hostOps0_2 (U1 m)
def U3 : Valuation τ sig (Elt F) := StableHlo.after hostOps0_3 (U2 m)
def U4 : Valuation τ sig (Elt F) := StableHlo.after hostOps0_4 (U3 m)
def U5 : Valuation τ sig (Elt F) := StableHlo.after hostOps0_5 (U4 m)
def U6 : Valuation τ sig (Elt F) := StableHlo.after hostOps0_6 (U5 m)
def U7 : Valuation τ sig (Elt F) := StableHlo.after hostOps0_7 (U6 m)

theorem U0_arg1 : U0 m main_arg1 = gs m := by
  unfold U0
  after_reads_simp

theorem U0_arg3 : U0 m main_arg3 = m ((0 : Dev nD), main_arg3) := by
  unfold U0
  after_reads_simp

theorem U0_v0 : U0 m main_v0 = Cert.Tables.endV sides (gs m) := by
  unfold U0
  after_reads_simp
  simp -implicitDefEqProofs only [StableHlo.TRef.toBuf, StableHlo.TRef.ofBuf, cast_cast, cast_eq]
  rfl

theorem U1_arg1 : U1 m main_arg1 = gs m := by
  unfold U1
  after_reads_simp
  exact U0_arg1 m

theorem U1_arg3 : U1 m main_arg3 = m ((0 : Dev nD), main_arg3) := by
  unfold U1
  after_reads_simp
  exact U0_arg3 m

theorem U1_v0 : U1 m main_v0 = Cert.Tables.endV sides (gs m) := by
  unfold U1
  after_reads_simp
  exact U0_v0 m

theorem U1_v1 : U1 m main_v1 = Cert.Tables.startV sides (gs m) := by
  unfold U1
  after_reads_simp
  rw [U0_v0 m, U0_arg1 m]
  rfl

theorem U1_c : U1 m main_c = constantI S_ 32 512#32 := by
  unfold U1
  after_reads_simp

theorem U2_arg1 : U2 m main_arg1 = gs m := by
  unfold U2
  after_reads_simp
  exact U1_arg1 m

theorem U2_arg3 : U2 m main_arg3 = m ((0 : Dev nD), main_arg3) := by
  unfold U2
  after_reads_simp
  exact U1_arg3 m

theorem U2_v0 : U2 m main_v0 = Cert.Tables.endV sides (gs m) := by
  unfold U2
  after_reads_simp
  exact U1_v0 m

theorem U2_v1 : U2 m main_v1 = Cert.Tables.startV sides (gs m) := by
  unfold U2
  after_reads_simp
  exact U1_v1 m

theorem U2_v2 : U2 m main_v2 = Cert.Tables.firstV sides (gs m) := by
  unfold U2
  after_reads_simp
  rw [U1_v1 m, U1_c m]
  simp -implicitDefEqProofs only [StableHlo.TRef.toBuf, StableHlo.TRef.ofBuf, cast_cast, cast_eq]
  rfl

theorem U3_arg1 : U3 m main_arg1 = gs m := by
  unfold U3
  after_reads_simp
  exact U2_arg1 m

theorem U3_arg3 : U3 m main_arg3 = m ((0 : Dev nD), main_arg3) := by
  unfold U3
  after_reads_simp
  exact U2_arg3 m

theorem U3_v0 : U3 m main_v0 = Cert.Tables.endV sides (gs m) := by
  unfold U3
  after_reads_simp
  exact U2_v0 m

theorem U3_v1 : U3 m main_v1 = Cert.Tables.startV sides (gs m) := by
  unfold U3
  after_reads_simp
  exact U2_v1 m

theorem U3_v2 : U3 m main_v2 = Cert.Tables.firstV sides (gs m) := by
  unfold U3
  after_reads_simp
  exact U2_v2 m

theorem U3_v4 : U3 m main_v4 = cmpi .sgt (gs m) (broadcastInDim S16 ![] bcast_S_S16 (constantI S_ 32 0#32)) := by
  unfold U3
  after_reads_simp
  rw [U2_arg1 m]

theorem U3_v6 : U3 m main_v6 = subi (Cert.Tables.endV sides (gs m)) (broadcastInDim S16 ![] bcast_S_S16 (constantI S_ 32 1#32)) := by
  unfold U3
  after_reads_simp
  rw [U2_v0 m]

theorem U3_c_2 : U3 m main_c_2 = constantI S_ 32 512#32 := by
  unfold U3
  after_reads_simp

theorem U4_arg1 : U4 m main_arg1 = gs m := by
  unfold U4
  after_reads_simp
  exact U3_arg1 m

theorem U4_arg3 : U4 m main_arg3 = m ((0 : Dev nD), main_arg3) := by
  unfold U4
  after_reads_simp
  exact U3_arg3 m

theorem U4_v0 : U4 m main_v0 = Cert.Tables.endV sides (gs m) := by
  unfold U4
  after_reads_simp
  exact U3_v0 m

theorem U4_v1 : U4 m main_v1 = Cert.Tables.startV sides (gs m) := by
  unfold U4
  after_reads_simp
  exact U3_v1 m

theorem U4_v2 : U4 m main_v2 = Cert.Tables.firstV sides (gs m) := by
  unfold U4
  after_reads_simp
  exact U3_v2 m

theorem U4_v4 : U4 m main_v4 = cmpi .sgt (gs m) (broadcastInDim S16 ![] bcast_S_S16 (constantI S_ 32 0#32)) := by
  unfold U4
  after_reads_simp
  exact U3_v4 m

theorem U4_v7 : U4 m main_v7 = Cert.Tables.lastV sides (gs m) := by
  unfold U4
  after_reads_simp
  rw [U3_v6 m, U3_c_2 m]
  simp -implicitDefEqProofs only [StableHlo.TRef.toBuf, StableHlo.TRef.ofBuf, cast_cast, cast_eq]
  rfl

theorem U5_arg1 : U5 m main_arg1 = gs m := by
  unfold U5
  after_reads_simp
  exact U4_arg1 m

theorem U5_arg3 : U5 m main_arg3 = m ((0 : Dev nD), main_arg3) := by
  unfold U5
  after_reads_simp
  exact U4_arg3 m

theorem U5_v0 : U5 m main_v0 = Cert.Tables.endV sides (gs m) := by
  unfold U5
  after_reads_simp
  exact U4_v0 m

theorem U5_v1 : U5 m main_v1 = Cert.Tables.startV sides (gs m) := by
  unfold U5
  after_reads_simp
  exact U4_v1 m

theorem U5_v2 : U5 m main_v2 = Cert.Tables.firstV sides (gs m) := by
  unfold U5
  after_reads_simp
  exact U4_v2 m

theorem U5_v4 : U5 m main_v4 = cmpi .sgt (gs m) (broadcastInDim S16 ![] bcast_S_S16 (constantI S_ 32 0#32)) := by
  unfold U5
  after_reads_simp
  exact U4_v4 m

theorem U5_v10 : U5 m main_v10 = addi (subi (Cert.Tables.lastV sides (gs m)) (Cert.Tables.firstV sides (gs m))) (broadcastInDim S16 ![] bcast_S_S16 (constantI S_ 32 1#32)) := by
  unfold U5
  after_reads_simp
  rw [U4_v7 m, U4_v2 m]

theorem U5_c_4 : U5 m main_c_4 = constantI S_ 32 0#32 := by
  unfold U5
  after_reads_simp

theorem U6_arg1 : U6 m main_arg1 = gs m := by
  unfold U6
  after_reads_simp
  exact U5_arg1 m

theorem U6_arg3 : U6 m main_arg3 = m ((0 : Dev nD), main_arg3) := by
  unfold U6
  after_reads_simp
  exact U5_arg3 m

theorem U6_v0 : U6 m main_v0 = Cert.Tables.endV sides (gs m) := by
  unfold U6
  after_reads_simp
  exact U5_v0 m

theorem U6_v1 : U6 m main_v1 = Cert.Tables.startV sides (gs m) := by
  unfold U6
  after_reads_simp
  exact U5_v1 m

theorem U6_v2 : U6 m main_v2 = Cert.Tables.firstV sides (gs m) := by
  unfold U6
  after_reads_simp
  exact U5_v2 m

theorem U6_v11 : U6 m main_v11 = Cert.Tables.cntV sides (gs m) := by
  unfold U6
  after_reads_simp
  rw [U5_v4 m, U5_v10 m, U5_c_4 m]
  simp -implicitDefEqProofs only [StableHlo.TRef.toBuf, StableHlo.TRef.ofBuf, cast_cast, cast_eq]
  rfl

theorem U7_arg3 : U7 m main_arg3 = m ((0 : Dev nD), main_arg3) := by
  unfold U7
  after_reads_simp
  exact U6_arg3 m

theorem U7_v0 : U7 m main_v0 = Cert.Tables.endV sides (gs m) := by
  unfold U7
  after_reads_simp
  exact U6_v0 m

theorem U7_v1 : U7 m main_v1 = Cert.Tables.startV sides (gs m) := by
  unfold U7
  after_reads_simp
  exact U6_v1 m

theorem U7_v2 : U7 m main_v2 = Cert.Tables.firstV sides (gs m) := by
  unfold U7
  after_reads_simp
  exact U6_v2 m

theorem U7_v11 : U7 m main_v11 = Cert.Tables.cntV sides (gs m) := by
  unfold U7
  after_reads_simp
  exact U6_v11 m

theorem U7_v12 : U7 m main_v12 = Cert.Tables.totV sides (gs m) := by
  unfold U7
  after_reads_simp
  rw [U6_v11 m]
  simp -implicitDefEqProofs only [StableHlo.TRef.toBuf, StableHlo.TRef.ofBuf, cast_cast, cast_eq]
  rfl

theorem V_last (b : Ref sig .tc) : V m 0 b = StableHlo.after hostOps0_8 (U7 m) b := by
  unfold U7 U6 U5 U4 U3 U2 U1 U0
  rfl

theorem V_expert : V m 0 main_v25 = Cert.Tables.expertV sides (gs m) := by
  rw [V_last]
  after_reads_simp
  rw [U7_v12 m]
  rfl

theorem V_tile : V m 0 main_v42 = Cert.Tables.tileV sides (gs m) gather_S16_S79x1_S79_n_0_n_n_0_1_1 := by
  rw [V_last]
  after_reads_simp
  rw [U7_v12 m, U7_v11 m, U7_v2 m]
  rfl

theorem V_start : V m 0 main_v49 = Cert.Tables.startsV sides (gs m) gather_S16_S79x1_S79_n_0_n_n_0_1_1 := by
  rw [V_last]
  after_reads_simp
  rw [U7_v12 m, U7_v1 m]
  rfl

theorem V_stop : V m 0 main_v56 = Cert.Tables.stopsV sides (gs m) gather_S16_S79x1_S79_n_0_n_n_0_1_1 := by
  rw [V_last]
  after_reads_simp
  rw [U7_v12 m, U7_v0 m]
  rfl

theorem V_total : V m 0 main_v57 = Cert.Tables.totalV sides (gs m) := by
  rw [V_last]
  after_reads_simp
  rw [U7_v12 m]
  rfl

theorem V_scales : V m 0 main_v58 = broadcastInDim S16x1x7168 ![0, 2] bcast_S16x7168_S16x1x7168_0_2 (m ((0 : Dev nD), main_arg3)) := by
  rw [V_last]
  after_reads_simp
  rw [U7_arg3 m]

/-! ## The tables read as numbers -/

variable (s : Nat → Nat) (hx : ∀ e : Fin 16, gs m (ix1 e) = BitVec.ofNat 32 (s e.val)) (hs : cum s 15 = 32768)

include hx hs

theorem tb0_at (t : Fin 79) : tb0 m (ix1 t) = BitVec.ofNat 32 (tile s t.val) :=
  (congrFun (V_tile m) (ix1 t)).trans (Cert.Tables.tileV_ap sides (gs m) _ s hx hs rfl rfl rfl rfl t)
theorem tb1_at (t : Fin 79) : tb1 m (ix1 t) = BitVec.ofNat 32 (expert s t.val) :=
  (congrFun (V_expert m) (ix1 t)).trans (Cert.Tables.expertV_ap sides (gs m) s hx hs t)
theorem tb2_at (t : Fin 79) : tb2 m (ix1 t) = BitVec.ofNat 32 (start s t.val) :=
  (congrFun (V_start m) (ix1 t)).trans (Cert.Tables.startsV_ap sides (gs m) _ s hx hs rfl rfl rfl rfl t)
theorem tb3_at (t : Fin 79) : tb3 m (ix1 t) = BitVec.ofNat 32 (stop s t.val) :=
  (congrFun (V_stop m) (ix1 t)).trans (Cert.Tables.stopsV_ap sides (gs m) _ s hx hs rfl rfl rfl rfl t)
theorem tb4_at : tb4 m (ix1 (0 : Fin 1)) = BitVec.ofNat 32 (total s) :=
  (congrFun (V_total m) (ix1 (0 : Fin 1))).trans (Cert.Tables.totalV_ap sides (gs m) s hx hs)

omit hx hs in
theorem coords_surj (i : grid0.Coords) : ∃ t : Fin grid0.N, grid0.coords t = i :=
  ⟨⟨(i 0).val, (i 0).isLt⟩, funext fun a => match a with | ⟨0, _⟩ => Fin.ext (coords_val _)⟩

theorem where0 (t : Fin grid0.N) : (wHere (tb0 m) (grid0.coords t)).toNat = tile s t.val := by
  rw [wHere_eq, tb0_at m s hx hs ⟨t.val, lt79 t⟩]
  exact Nat.mod_eq_of_lt ((tile_lt s hs t.val).trans (by decide))
theorem where1 (t : Fin grid0.N) : (wHere (tb1 m) (grid0.coords t)).toNat = expert s t.val := by
  rw [wHere_eq, tb1_at m s hx hs ⟨t.val, lt79 t⟩]
  exact Nat.mod_eq_of_lt ((expert_lt s hs t.val).trans (by decide))

omit hx hs in
theorem block_ok (S A : Shape) (e : EltTy) (f : Fin A.rank → Nat) (size : Fin A.rank → Nat) (h : ∀ a, (f a + 1) * size a ≤ A.size a)
    (h2 : 2 ≤ A.rank) (hp : e.packing ∣ size (A.rowAx h2)) :
    ∃ h : (∀ a, (f a + 1) * size a ≤ A.size a), EltTy.bits e = 32 ∨ (Rect.block (s := A) size f h).WholeWords e.packing :=
  ⟨h, .inr (.inl (.inr ⟨h2, rfl, .inl ⟨(hp.mul_left _ : e.packing ∣ f _ * size _), hp⟩⟩))⟩

/-- With sizes that fill the rows, every block of every window lies inside its array. -/
theorem ok_of : Ok m := by
  refine ⟨fun i => ?_, fun i => ?_, fun i => ?_, fun i => ?_⟩
  · obtain ⟨t, rfl⟩ := coords_surj i
    have h0 := where0 m s hx hs t
    have h1 := tile_lt s hs t.val
    refine block_ok S512x1536 S32768x1536 .bf16 _ _ ?_ (by decide) (by decide)
    rw [tr0 (tbl m) (tb0 m) rfl]
    intro a
    match a with
    | ⟨0, _⟩ => show ((wHere (tb0 m) (grid0.coords t)).toNat + 1) * 512 ≤ 32768; omega
    | ⟨1, _⟩ => show (0 + 1) * 1536 ≤ 1536; omega
  · obtain ⟨t, rfl⟩ := coords_surj i
    have h0 := where1 m s hx hs t
    have h1 := expert_lt s hs t.val
    refine block_ok S1x7168x1536 S16x7168x1536 .fp8e4m3 _ _ ?_ (by decide) (by decide)
    rw [tr1 (tbl m) (tb1 m) rfl]
    intro a
    match a with
    | ⟨0, _⟩ => show ((wHere (tb1 m) (grid0.coords t)).toNat + 1) * 1 ≤ 16; omega
    | ⟨1, _⟩ => show (0 + 1) * 7168 ≤ 7168; omega
    | ⟨2, _⟩ => show (0 + 1) * 1536 ≤ 1536; omega
  · obtain ⟨t, rfl⟩ := coords_surj i
    have h0 := where1 m s hx hs t
    have h1 := expert_lt s hs t.val
    refine block_ok S1x1x7168 S16x1x7168 .f32 _ _ ?_ (by decide) (by decide)
    rw [tr2 (tbl m) (tb1 m) rfl]
    intro a
    match a with
    | ⟨0, _⟩ => show ((wHere (tb1 m) (grid0.coords t)).toNat + 1) * 1 ≤ 16; omega
    | ⟨1, _⟩ => show (0 + 1) * 1 ≤ 1; omega
    | ⟨2, _⟩ => show (0 + 1) * 7168 ≤ 7168; omega
  · obtain ⟨t, rfl⟩ := coords_surj i
    have h0 := where0 m s hx hs t
    have h1 := tile_lt s hs t.val
    refine block_ok S512x7168 S32768x7168 .bf16 _ _ ?_ (by decide) (by decide)
    rw [tr3 (tbl m) (tb0 m) rfl]
    intro a
    match a with
    | ⟨0, _⟩ => show ((wHere (tb0 m) (grid0.coords t)).toNat + 1) * 512 ≤ 32768; omega
    | ⟨1, _⟩ => show (0 + 1) * 7168 ≤ 7168; omega

end Cert.KernelIdeal.Hand
-- ==== Proof.Sizes.lean ====
/-
  The precondition on the sizes, read: they are sixteen natural numbers that add up to the number of rows.
-/
module

public import proofs.«01_k».proof.Proof.Tables
public import proofs.«01_k».proof.Proof.Gen.Pre_sizes_fill
public import proofs.«01_k».proof.Proof.Gen.Pre_sizes_fill_and_finite

@[expose] public section

noncomputable section

namespace Cert.Sizes

open Idealize.ShloMosaic Idealize.ShloMosaic.ValueIdx Idealize.ShloMosaic.WordCmp
open Idealize.ShloMosaic.Routing
open Cert.Items

/-- The condition on the sizes as it prints. -/
def cond (hb : shape0.BroadcastsInDim (shape1 16) (![] : Fin 0 → Fin (shape1 16).rank)) (hr : (shape1 16).ReducesTo [0] shape0) (hu : 0 < shape0.numel)
    (x : IVec (shape1 16) 32) : IVec (shape1 16) 1 :=
  andi (andi (cmpi .sge x (broadcastInDim (shape1 16) ![] hb (constantI shape0 32 0#32)))
      (cmpi .sle x (broadcastInDim (shape1 16) ![] hb (constantI shape0 32 32768#32))))
    (broadcastInDim (shape1 16) ![] hb (cmpi .eq (Host.reduce IntOp.addi x (constantI shape0 32 0#32) hr hu) (constantI shape0 32 32768#32)))

theorem and_one : ∀ a b : BitVec 1, a &&& b = 1#1 → a = 1#1 ∧ b = 1#1 := by decide

theorem cum_bound (s : Nat → Nat) (h : ∀ e, s e ≤ 32768) (n : Nat) : Items.cum s n ≤ (n + 1) * 32768 := by
  induction n with
  | zero => rw [cum_zero]; have := h 0; omega
  | succ n ih => have := h (n + 1); rw [cum_succ]; omega

/-- Sizes under the condition are the words of natural numbers whose running sum ends at the number of rows. -/
theorem sizes (hb : shape0.BroadcastsInDim (shape1 16) (![] : Fin 0 → Fin (shape1 16).rank)) (hr : (shape1 16).ReducesTo [0] shape0) (hu : 0 < shape0.numel)
    (x : IVec (shape1 16) 32) (h : cond hb hr hu x = fun _ => 1#1) :
    ∃ s : Nat → Nat, (∀ e : Fin 16, x (ix1 e) = BitVec.ofNat 32 (s e.val)) ∧ Items.cum s 15 = 32768 := by
  have hat : ∀ e : Fin 16, (x (ix1 e)).toNat ≤ 32768 ∧ Host.reduce IntOp.addi x (constantI shape0 32 0#32) hr hu ix0 = 32768#32 := by
    intro e
    have h0 := congrFun h (ix1 e)
    obtain ⟨h1, h2⟩ := and_one _ _ h0
    obtain ⟨h3, h4⟩ := and_one _ _ h1
    rw [bc0, cmpi_at, constantI_at] at h2
    rw [cmpi_at, bc0, constantI_at] at h3 h4
    rw [cmpi_sge_zero, ofBool_eq_one_iff, decide_eq_true_iff] at h3
    rw [cmpi_sle_of_lt h3 (by decide), ofBool_eq_one_iff, decide_eq_true_iff] at h4
    rw [IntOp.cmpi, ofBool_eq_one_iff] at h2
    exact ⟨h4, by simpa using h2⟩
  let s : Nat → Nat := fun e => if he : e < 16 then (x (ix1 ⟨e, he⟩)).toNat else 0
  have hx : ∀ e : Fin 16, x (ix1 e) = BitVec.ofNat 32 (s e.val) := by
    intro e
    simp only [s, dif_pos e.isLt]
    simp
  have hle : ∀ e, s e ≤ 32768 := by
    intro e
    simp only [s]
    split
    · exact (hat _).1
    · exact Nat.zero_le _
  refine ⟨s, hx, ?_⟩
  have h5 := (hat 0).2
  rw [reduce_sum x s hx hr hu] at h5
  have h6 := cum_bound s hle 15
  unfold Items.cum at h6
  have h7 := congrArg BitVec.toNat h5
  rw [BitVec.toNat_ofNat, Nat.mod_eq_of_lt (lt_of_le_of_lt h6 (by decide))] at h7
  exact h7.trans rfl

end Cert.Sizes
-- ==== Proof.StepI.lean ====
/-
  What a grid point stores, read at an element, over the extended reals.
-/
module

public import proofs.«01_k».proof.Proof.HostI
public import Idealize.ShloMosaic.Lib.IdealHost
public import Idealize.ShloMosaic.Lib.MatmulPlain
public import Idealize.ShloMosaic.Lib.ValueLayout
public import Idealize.ShloMosaic.Lib.ValueLayoutCasts
public import Idealize.ShloMosaic.Lib.Pipeline.ValueKit.Tiles

@[expose] public section

set_option synthInstance.maxSize 4096
set_option maxRecDepth 16384

noncomputable section

namespace Cert.KernelIdeal.Hand

open Cert.KernelIdeal.Gen Cert.Items
open Idealize.ShloMosaic Idealize.ShloMosaic.TcCoe Idealize.ShloMosaic.Tactic Idealize.ShloMosaic.ValueIdx
open scoped BigOperators

/-- A row of the tile belongs to the item. -/
abbrev mine (v1 v3 v5 : BitVec 32) (r : Fin 512) : Prop := k0_pay7 (F := Ideal) v1 v3 v5 (ix2 r (0 : Fin 1)) = 1#1

theorem column_at {α : Type} {a b : Nat} (x : (⟨2, ![a, 1]⟩ : Shape).Idx → α) (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h _ _ fun d => ?_
  match d with
  | ⟨0, _⟩ =>
    show r.val = if a = 1 then 0 else r.val
    split
    · have := r.isLt; omega
    · rfl
  | ⟨1, _⟩ => rfl

theorem pay8_at (v1 v3 v5 : BitVec 32) (q : Vec Ideal S512x1536 .fp8e5m2) (w : Vec Ideal S1x1792x1536 .fp8e4m3) (z : Vec Ideal S512x1 .f32)
    (sc : Vec Ideal S1x1x1792 .f32) (Y : Vec Ideal S512x1792 .bf16) (r : Fin 512) (c : Fin 1792) :
    k0_pay8 (F := Ideal) v1 v3 v5 q w z sc Y (ix2 r c)
      = if mine v1 v3 v5 r then ((∑ k : Fin 1536, q (ix2 r k) * w (ix3 (0 : Fin 1) c k)) * z (ix2 r (0 : Fin 1))) * sc (ix3 (0 : Fin 1) (0 : Fin 1) c) else Y (ix2 r c) := by
  have e1 : matmul (F := Ideal) (φ₁ := .fp8e5m2) (φ₂ := .fp8e4m3) dot_S512x1536_S1792x1536_S512x1792_1_1_0_0_n_n none q (shapeCast S1792x1536 w shapeCasts_S1x1792x1536_S1792x1536)
      (constant S512x1792 .f32 0x00000000#32) (ix2 r c) = ∑ k : Fin 1536, q (ix2 r k) * w (ix3 (0 : Fin 1) c k) := by
    refine (Ideal.matmul_transposedRhs_apply none _ _ _ r c).trans ?_
    rw [show (constant S512x1792 .f32 0x00000000#32 : FVec Ideal S512x1792 .f32) (ix2 r c) = 0 from Ideal.ofBits_zero_f32, zero_add]
    exact Finset.sum_congr rfl fun k _ => congrArg _ (shapeCast_1ab_ab_apply w _ c k)
  unfold k0_pay8 mine
  rw [shapeCast_self Y, shapeCast_self (k0_pay7 (F := Ideal) v1 v3 v5)]
  show Scalar.select (broadcastTo S512x1792 (k0_pay7 (F := Ideal) v1 v3 v5) broadcasts_S512x1_S512x1792 (ix2 r c))
    ((matmul (F := Ideal) (φ₁ := .fp8e5m2) (φ₂ := .fp8e4m3) dot_S512x1536_S1792x1536_S512x1792_1_1_0_0_n_n none q (shapeCast S1792x1536 w shapeCasts_S1x1792x1536_S1792x1536)
      (constant S512x1792 .f32 0x00000000#32) (ix2 r c) * broadcastTo S512x1792 z broadcasts_S512x1_S512x1792 (ix2 r c) : EReal)
      * broadcastTo S512x1792 (shapeCast S1x1792 sc shapeCasts_S1x1x1792_S1x1792) broadcasts_S1x1792_S512x1792 (ix2 r c)) (Y (ix2 r c)) = _
  rw [e1, column_at, column_at, broadcastTo_1b_ab_apply, shapeCast_1ab_ab_apply]
  rfl

/-- What a used point leaves at row `r` of the tile and column `d`. -/
def elem (v1 v3 v5 : BitVec 32) (x7 : Vec Ideal S1x7168x1536 .fp8e4m3) (x8 : Vec Ideal S1x1x7168 .f32) (Y : Vec Ideal S512x7168 .bf16)
    (q : Vec Ideal S512x1536 .fp8e5m2) (z : Vec Ideal S512x128 .f32) (r : Fin 512) (d : Fin 7168) : EReal :=
  if mine v1 v3 v5 r then ((∑ k : Fin 1536, (q (ix2 r k) : EReal) * x7 (ix3 (0 : Fin 1) d k)) * z (ix2 r (0 : Fin 128))) * x8 (ix3 (0 : Fin 1) (0 : Fin 1) d)
  else Y (ix2 r d)

section
variable (v1 v3 v5 : BitVec 32) (x7 : Vec Ideal S1x7168x1536 .fp8e4m3) (x8 : Vec Ideal S1x1x7168 .f32) (Y : Vec Ideal S512x7168 .bf16)
    (q : Vec Ideal S512x1536 .fp8e5m2) (z : Vec Ideal S512x128 .f32)

/-- One chunk of columns, starting at column `o`. -/
theorem piece (o : Nat) (iW : ∀ a, (![0, o, 0] : Fin 3 → Nat) a + S1x1792x1536.size a ≤ S1x7168x1536.size a)
    (iS : ∀ a, (![0, 0, o] : Fin 3 → Nat) a + S1x1x1792.size a ≤ S1x1x7168.size a)
    (iO : ∀ a, (![0, o] : Fin 2 → Nat) a + S512x1792.size a ≤ S512x7168.size a) (r : Fin 512) (d : Fin 7168) :
    View.TileAt (Val := Elt Ideal) (e := .bf16) (ix2 r d : S512x7168.Idx) ![0, o] S512x1792.size
      (k0_pay8 (F := Ideal) v1 v3 v5 (View.ld q rDy) (View.ld x7 (Rect.unit (s := S1x7168x1536) ![0, o, 0] S1x1792x1536.size iW)) (View.ld z rSc1)
        (View.ld x8 (Rect.unit (s := S1x1x7168) ![0, 0, o] S1x1x1792.size iS)) (View.ld Y (Rect.unit (s := S512x7168) ![0, o] S512x1792.size iO)))
      (elem v1 v3 v5 x7 x8 Y q z r d) := by
  intro x hx
  have hr : x 0 = r := Fin.ext (by have := hx 0; simp at this; exact this.symm)
  have hd : d.val = o + (x 1).val := hx 1
  have e : x = ix2 r (x 1) := by rw [← hr]; funext a; match a with | ⟨0, _⟩ => rfl | ⟨1, _⟩ => rfl
  rw [e]
  refine (pay8_at v1 v3 v5 _ _ _ _ _ r (x 1)).trans ?_
  have e1 : ∀ k : Fin 1536, View.ld q rDy (ix2 r k) = q (ix2 r k) := fun k => View.ld_unit_apply_of q _ _ _ _ _ (fun a => by
    match a with | ⟨0, _⟩ => exact (Nat.zero_add _).symm | ⟨1, _⟩ => exact (Nat.zero_add _).symm)
  have e2 : ∀ k : Fin 1536, View.ld x7 (Rect.unit (s := S1x7168x1536) ![0, o, 0] S1x1792x1536.size iW) (ix3 (0 : Fin 1) (x 1) k) = x7 (ix3 (0 : Fin 1) d k) :=
    fun k => View.ld_unit_apply_of x7 _ _ _ _ _ (fun a => by
      match a with | ⟨0, _⟩ => rfl | ⟨1, _⟩ => exact hd | ⟨2, _⟩ => exact (Nat.zero_add _).symm)
  have e3 : View.ld z rSc1 (ix2 r (0 : Fin 1)) = z (ix2 r (0 : Fin 128)) := View.ld_unit_apply_of z _ _ _ _ _ (fun a => by
    match a with | ⟨0, _⟩ => exact (Nat.zero_add _).symm | ⟨1, _⟩ => rfl)
  have e4 : View.ld x8 (Rect.unit (s := S1x1x7168) ![0, 0, o] S1x1x1792.size iS) (ix3 (0 : Fin 1) (0 : Fin 1) (x 1)) = x8 (ix3 (0 : Fin 1) (0 : Fin 1) d) :=
    View.ld_unit_apply_of x8 _ _ _ _ _ (fun a => by match a with | ⟨0, _⟩ => rfl | ⟨1, _⟩ => rfl | ⟨2, _⟩ => exact hd)
  have e5 : View.ld Y (Rect.unit (s := S512x7168) ![0, o] S512x1792.size iO) (ix2 r (x 1)) = Y (ix2 r d) :=
    View.ld_unit_apply_of Y _ _ _ _ _ (fun a => by match a with | ⟨0, _⟩ => exact (Nat.zero_add _).symm | ⟨1, _⟩ => exact hd)
  unfold elem
  rw [e3, e4, e5]
  simp only [e1, e2]

theorem stepOut_at (r : Fin 512) (d : Fin 7168) : stepOut (F := Ideal) v1 v3 v5 x7 x8 Y q z (ix2 r d) = elem v1 v3 v5 x7 x8 Y q z r d := by
  unfold stepOut
  refine View.canon_eq_of_allAt _ _ _ (cover _ _ _ _ _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · exact piece v1 v3 v5 x7 x8 Y q z 5376 inb_S1x7168x1536_S1x1792x1536_0_5376_0 inb_S1x1x7168_S1x1x1792_0_0_5376 inb_S512x7168_S512x1792_0_5376 r d
  · exact piece v1 v3 v5 x7 x8 Y q z 3584 inb_S1x7168x1536_S1x1792x1536_0_3584_0 inb_S1x1x7168_S1x1x1792_0_0_3584 inb_S512x7168_S512x1792_0_3584 r d
  · exact piece v1 v3 v5 x7 x8 Y q z 1792 inb_S1x7168x1536_S1x1792x1536_0_1792_0 inb_S1x1x7168_S1x1x1792_0_0_1792 inb_S512x7168_S512x1792_0_1792 r d
  · exact piece v1 v3 v5 x7 x8 Y q z 0 inb_S1x7168x1536_S1x1792x1536_0_0_0 inb_S1x1x7168_S1x1x1792_0_0_0 inb_S512x7168_S512x1792_0_0 r d

end

/-- The mask's rows: those from the item's first row up to its last. -/
theorem mine_iff (t a b : Nat) (ht : t < 64) (ha : a ≤ 32768) (hb : b ≤ 32768) (r : Fin 512) :
    mine (BitVec.ofNat 32 t) (BitVec.ofNat 32 a) (BitVec.ofNat 32 b) r ↔ a ≤ r.val + t * 512 ∧ r.val + t * 512 < b := by
  have hw : (BitVec.ofNat 32 r.val + BitVec.ofNat 32 t * 512#32 : BitVec 32) = BitVec.ofNat 32 (r.val + t * 512) := by
    rw [BitVec.ofNat_add, BitVec.ofNat_mul]
  have e : k0_pay7 (F := Ideal) (BitVec.ofNat 32 t) (BitVec.ofNat 32 a) (BitVec.ofNat 32 b) (ix2 r (0 : Fin 1))
      = Scalar.andi (Scalar.cmpi .sge (BitVec.ofNat 32 r.val + BitVec.ofNat 32 t * 512#32) (BitVec.ofNat 32 a))
          (Scalar.cmpi .slt (BitVec.ofNat 32 r.val + BitVec.ofNat 32 t * 512#32) (BitVec.ofNat 32 b)) := by
    unfold k0_pay7
    show IntOp.andi (IntOp.cmpi .sge (IntOp.addi (iota .tc S512x1 32 [0] iota_S512x1_d0_w32 (ix2 r (0 : Fin 1))) _) _)
      (IntOp.cmpi .slt (IntOp.addi (iota .tc S512x1 32 [0] iota_S512x1_d0_w32 (ix2 r (0 : Fin 1))) _) _) = _
    rw [iota_single_apply]
    rfl
  unfold mine
  rw [e, hw]
  have := r.isLt
  unfold Scalar.cmpi
  rw [WordCmp.cmpi_sge_ofNat (w := 32) (by omega) (by omega), WordCmp.cmpi_slt_ofNat (w := 32) (by omega) (by omega)]
  by_cases h1 : a ≤ r.val + t * 512 <;> by_cases h2 : r.val + t * 512 < b <;> simp [h1, h2] <;> decide

end Cert.KernelIdeal.Hand
-- ==== Proof.Quant.lean ====
/-
  Quantising a row of finite values by a power of two, over the extended reals: no value is clipped, and the power cancels in the product.
-/
module

public import Idealize.ShloMosaic.Lib.IdealHost
public import Idealize.ShloMosaic.PureOps.Ideal
public import Mathlib.Order.Interval.Finset.Fin

@[expose] public section

noncomputable section

namespace Cert.Quant

open Idealize.ShloMosaic
open scoped BigOperators

/-- The reciprocal of the greatest code, as the program rounds it. -/
abbrev cR : ℝ := 9586981 / 2 ^ 39

theorem ofBits_c : Ideal.ofBits .f32 0x37924925#32 = ((cR : ℝ) : EReal) := by
  simp [Ideal.ofBits, Ideal.ieee, -EReal.coe_mul]; norm_num
theorem cR_pos : 0 < cR := by norm_num
theorem one_le_cR : 1 ≤ cR * 57344 := by norm_num
theorem cR_lt : cR < 1 := by norm_num

theorem ofBits_hi : Ideal.ofBits .bf16 0x4760#16 = ((57344 : ℝ) : EReal) := by
  simp [Ideal.ofBits, Ideal.ieee, -EReal.coe_mul]; norm_num
theorem ofBits_lo : Ideal.ofBits .bf16 0xC760#16 = ((-57344 : ℝ) : EReal) := by
  simp [Ideal.ofBits, Ideal.ieee, -EReal.coe_mul, -EReal.coe_neg]; norm_num
theorem ofBits_hi32 : Ideal.ofBits .f32 0x47600000#32 = ((57344 : ℝ) : EReal) := by
  simp [Ideal.ofBits, Ideal.ieee, -EReal.coe_mul]; norm_num
theorem ofBits_lo32 : Ideal.ofBits .f32 0xC7600000#32 = ((-57344 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_bot16 : Ideal.ofBits .bf16 0xFF80#16 = ⊥ := by
  simp [Ideal.ofBits, Ideal.ieee]
theorem ofBits_bot32 : Ideal.ofBits .f32 0xFF800000#32 = ⊥ := by
  simp [Ideal.ofBits, Ideal.ieee]

/-- The greatest finite value of the rows' format. -/
abbrev big : ℝ := 255 * 2 ^ 120

theorem ofBits_big : Ideal.ofBits .bf16 0x7F7F#16 = ((big : ℝ) : EReal) := by
  simp [Ideal.ofBits, Ideal.ieee, -EReal.coe_mul]

theorem big_small : big * cR < (2 : ℝ) ^ (113 : ℤ) := by norm_num

/-- A value whose size is at most a finite one is finite. -/
theorem real_of_abs_le {x : EReal} {M : ℝ} (h : max x (-x) ≤ (M : EReal)) : ∃ r : ℝ, x = (r : EReal) ∧ |r| ≤ M := by
  have h1 : x ≤ (M : EReal) := (le_max_left _ _).trans h
  have h2 : -x ≤ (M : EReal) := (le_max_right _ _).trans h
  induction x using EReal.rec with
  | bot => simp at h2
  | top => simp at h1
  | coe r =>
    refine ⟨r, rfl, abs_le.mpr ⟨?_, EReal.coe_le_coe_iff.mp h1⟩⟩
    have : (-r : ℝ) ≤ M := EReal.coe_le_coe_iff.mp (by rw [EReal.coe_neg]; exact h2)
    linarith

/-- The greatest size in a row of finite values. -/
theorem rowMax {n : Nat} (hn : 0 < n) (g : Fin n → ℝ) (M : ℝ) (hM : ∀ k, |g k| ≤ M) (f : Fin n → EReal) (hf : ∀ k, f k = max ((g k : ℝ) : EReal) (-((g k : ℝ) : EReal))) :
    ∃ A : ℝ, (Finset.univ : Finset (Fin n)).fold max ⊥ f = (A : EReal) ∧ 0 ≤ A ∧ A ≤ M ∧ ∀ k, |g k| ≤ A := by
  have hf' : ∀ k, f k = ((|g k| : ℝ) : EReal) := fun k => by
    rw [hf k, ← EReal.coe_neg]; exact (EReal.coe_strictMono.monotone.map_max (a := g k) (b := -g k)).symm
  have hle : (Finset.univ : Finset (Fin n)).fold max ⊥ f ≤ (M : EReal) :=
    (Finset.fold_max_le _).mpr ⟨bot_le, fun k _ => by rw [hf' k]; exact EReal.coe_le_coe_iff.mpr (hM k)⟩
  have hge : ∀ k, ((|g k| : ℝ) : EReal) ≤ (Finset.univ : Finset (Fin n)).fold max ⊥ f := fun k =>
    (Finset.le_fold_max _).mpr (Or.inr ⟨k, Finset.mem_univ k, (hf' k).symm.le⟩)
  generalize (Finset.univ : Finset (Fin n)).fold max ⊥ f = S at hle hge
  induction S using EReal.rec with
  | bot => exact absurd (hge ⟨0, hn⟩) (by simp)
  | top => simp at hle
  | coe A =>
    exact ⟨A, rfl, (abs_nonneg _).trans (EReal.coe_le_coe_iff.mp (hge ⟨0, hn⟩)), EReal.coe_le_coe_iff.mp hle, fun k => EReal.coe_le_coe_iff.mp (hge k)⟩

/-- No value of the row is clipped when the power of two exceeds the scaled greatest size. -/
theorem clip_noop {v A p : ℝ} (hv : |v| ≤ A) (hp : 0 < p) (h : A * cR < p) :
    min ((57344 : ℝ) : EReal) (max ((-57344 : ℝ) : EReal) (((v : ℝ) : EReal) * ((p⁻¹ : ℝ) : EReal))) = ((v * p⁻¹ : ℝ) : EReal) := by
  have hA : A < 57344 * p := by
    have h0 : 0 ≤ A := (abs_nonneg v).trans hv
    nlinarith [one_le_cR]
  have hb := abs_le.mp hv
  have h1 : v * p⁻¹ ≤ 57344 := by rw [← div_eq_mul_inv, div_le_iff₀ hp]; linarith
  have h2 : -57344 ≤ v * p⁻¹ := by rw [← div_eq_mul_inv, le_div_iff₀ hp]; linarith
  rw [← EReal.coe_mul, max_eq_right (EReal.coe_le_coe_iff.mpr h2), min_eq_right (EReal.coe_le_coe_iff.mpr h1)]

/-- A finite positive factor distributes over a sum of extended reals. -/
theorem sum_mul_pos {n : Nat} (f : Fin n → EReal) {p : ℝ} (hp : 0 < p) : (∑ k, f k) * ((p : ℝ) : EReal) = ∑ k, f k * ((p : ℝ) : EReal) := by
  induction n with
  | zero => simp
  | succ n ih =>
    rw [Fin.sum_univ_succ, Fin.sum_univ_succ, EReal.right_distrib_of_nonneg_of_ne_top (by exact_mod_cast hp.le) (EReal.coe_ne_top p), ih]

/-- The power of two cancels in the product of the codes with the scale. -/
theorem cancel {n : Nat} (v : Fin n → ℝ) (w : Fin n → EReal) {p : ℝ} (hp : 0 < p) :
    (∑ k, ((v k * p⁻¹ : ℝ) : EReal) * w k) * ((p : ℝ) : EReal) = ∑ k, ((v k : ℝ) : EReal) * w k := by
  rw [sum_mul_pos _ hp]
  refine Finset.sum_congr rfl fun k _ => ?_
  rw [mul_right_comm, ← EReal.coe_mul, inv_mul_cancel_right₀ hp.ne']

/-! ## The words of the powers of two -/

theorem toNat_shift (i : Nat) (hi : i < 256) : (BitVec.ofNat 32 i <<< (23#32).toNat).toNat = i * 2 ^ 23 := by
  rw [BitVec.toNat_shiftLeft, BitVec.toNat_ofNat, Nat.shiftLeft_eq]
  rw [show (23#32 : BitVec 32).toNat = 23 from rfl, Nat.mod_eq_of_lt (show i < 2 ^ 32 by omega), Nat.mod_eq_of_lt (by omega)]

theorem ofBits_pow (i : Nat) (h0 : 0 < i) (h1 : i < 255) : Ideal.ofBits .f32 (BitVec.ofNat 32 i <<< (23#32).toNat) = (((2 : ℝ) ^ ((i : ℤ) - 127) : ℝ) : EReal) := by
  have ht := toNat_shift i (by omega)
  generalize BitVec.ofNat 32 i <<< (23#32).toNat = b at ht
  have e1 : (b.extractLsb' (8 + 23) 1 == 1#1) = false := by
    rw [beq_eq_false_iff_ne]; intro h
    have := congrArg BitVec.toNat h
    rw [BitVec.extractLsb'_toNat, Nat.shiftRight_eq_div_pow, ht] at this
    simp at this; omega
  have e2 : (b.extractLsb' 23 8).toNat = i := by
    rw [BitVec.extractLsb'_toNat, Nat.shiftRight_eq_div_pow, ht]; omega
  have e3 : (b.extractLsb' 0 23).toNat = 0 := by
    rw [BitVec.extractLsb'_toNat, Nat.shiftRight_eq_div_pow, ht]; omega
  show Ideal.ieee 8 23 b = _
  unfold Ideal.ieee
  simp only [e1, e2, e3]
  rw [if_neg (by omega), if_neg (by omega)]
  refine congrArg _ ?_
  norm_num
  rw [show ((i : ℤ) - 127) = 23 + ((i : ℤ) - 127 - 23) by ring, zpow_add₀ (by norm_num : (2 : ℝ) ≠ 0)]
  norm_num

theorem ofBits_pow_zero : Ideal.ofBits .f32 (BitVec.ofNat 32 0 <<< (23#32).toNat) = 0 := by
  rw [show (BitVec.ofNat 32 0 <<< (23#32).toNat) = 0x00000000#32 by decide]; exact Ideal.ofBits_zero_f32

theorem ofBits_pow_top : Ideal.ofBits .f32 (BitVec.ofNat 32 255 <<< (23#32).toNat) = ⊤ := by
  rw [show (BitVec.ofNat 32 255 <<< (23#32).toNat) = 0x7F800000#32 by decide]; simp [Ideal.ofBits, Ideal.ieee]

/-- The powers of two that a size is compared with. -/
def P (j : Nat) : EReal := Ideal.ofBits .f32 (BitVec.ofNat 32 j <<< (23#32).toNat)

theorem P_mono {x : EReal} (i j : Nat) (h : i ≤ j) (hj : j < 256) (hi : 0 < i) (hx : x < P i) : x < P j := by
  refine lt_of_lt_of_le hx ?_
  by_cases hj' : j = 255
  · subst hj'; unfold P; rw [ofBits_pow_top]; exact le_top
  · unfold P; rw [ofBits_pow i hi (by omega), ofBits_pow j (by omega) (by omega)]
    exact EReal.coe_le_coe_iff.mpr (zpow_le_zpow_right₀ (by norm_num) (by omega))

/-- How many of the powers exceed a size, and what that says of the size. -/
theorem count_spec (x : ℝ) (h0 : 0 ≤ x) (h1 : x < (2 : ℝ) ^ (113 : ℤ)) (n : Nat)
    (hn : (Finset.univ.filter fun j : Fin 256 => (x : EReal) < P j.val).card = n) :
    16 ≤ n ∧ n ≤ 255 ∧ x < (2 : ℝ) ^ ((256 - n : ℤ) - 127) := by
  have hup : ∀ i j : Fin 256, i ≤ j → (x : EReal) < P i.val → (x : EReal) < P j.val := fun i j hij hi => by
    refine P_mono i.val j.val hij j.isLt ?_ hi
    rcases Nat.eq_zero_or_pos i.val with h | h
    · rw [h] at hi; unfold P at hi; rw [ofBits_pow_zero] at hi
      exact absurd (EReal.coe_lt_coe_iff.mp (by simpa using hi) : x < 0) (not_lt.mpr h0)
    · exact h
  have hzero : ¬ (x : EReal) < P 0 := by
    unfold P; rw [ofBits_pow_zero]; exact not_lt.mpr (by exact_mod_cast h0)
  have h240 : (x : EReal) < P 240 := by
    unfold P; rw [ofBits_pow 240 (by norm_num) (by norm_num)]
    exact EReal.coe_lt_coe_iff.mpr (by simpa using h1)
  have h16 : 16 ≤ n := by
    rw [← hn]
    refine le_trans ?_ (Finset.card_le_card (s := Finset.Ici (240 : Fin 256)) fun j hj => Finset.mem_filter.mpr ⟨Finset.mem_univ _, hup 240 j (Finset.mem_Ici.mp hj) h240⟩)
    rw [Fin.card_Ici]; decide
  have h255 : n ≤ 255 := by
    rw [← hn]
    refine le_trans (Finset.card_le_card (t := Finset.Ioi (0 : Fin 256)) fun j hj => Finset.mem_Ioi.mpr ?_) (by rw [Fin.card_Ioi]; decide)
    rcases Nat.eq_zero_or_pos j.val with h | h
    · have := (Finset.mem_filter.mp hj).2
      rw [h] at this
      exact absurd this hzero
    · exact h
  refine ⟨h16, h255, ?_⟩
  by_contra hc
  have hlt : 256 - n < 256 := by omega
  have hb : ¬ (x : EReal) < P (⟨256 - n, hlt⟩ : Fin 256).val := by
    show ¬ (x : EReal) < P (256 - n)
    unfold P; rw [ofBits_pow (256 - n) (by omega) (by omega)]
    intro h
    refine hc ?_
    have := EReal.coe_lt_coe_iff.mp h
    rwa [Nat.cast_sub (by omega)] at this
  have : n ≤ (Finset.Ioi (⟨256 - n, hlt⟩ : Fin 256)).card := by
    refine hn.symm.le.trans ?_
    refine Finset.card_le_card fun j hj => Finset.mem_Ioi.mpr ?_
    by_contra hle
    exact hb (hup j _ (not_lt.mp hle) (Finset.mem_filter.mp hj).2)
  rw [Fin.card_Ioi] at this
  simp at this
  omega

end Cert.Quant
-- ==== Proof.QuantI.lean ====
/-
  The kernel's quantiser, read at a row of finite values: the scale is a power of two and each code is the value over it.
-/
module

public import proofs.«01_k».proof.Proof.StepI
public import proofs.«01_k».proof.Proof.Quant
public import Idealize.ShloMosaic.Lib.WordSum

@[expose] public section

set_option synthInstance.maxSize 4096
set_option maxRecDepth 16384

noncomputable section

namespace Cert.KernelIdeal.Hand

open Cert.KernelIdeal.Gen Cert.Quant
open Idealize.ShloMosaic Idealize.ShloMosaic.TcCoe Idealize.ShloMosaic.Tactic Idealize.ShloMosaic.ValueIdx
open scoped BigOperators

variable (x : Vec Ideal S512x1536 .bf16) (g : Fin 512 → Fin 1536 → ℝ)

/-- The row's greatest size. -/
def rowTop : FVec Ideal S512 .bf16 := multiReduction (F := Ideal) .maximumf [1] S512 (absf (F := Ideal) (φ := .bf16) x) 0xFF80#16 reduces_S512x1536_S512 (.inr rfl) rfl

theorem rowTop_at (hg : ∀ r k, x (ix2 r k) = ((g r k : ℝ) : EReal)) (hb : ∀ r k, |g r k| ≤ big) (r : Fin 512) :
    ∃ A : ℝ, rowTop x (ix1 r) = ((A : ℝ) : EReal) ∧ 0 ≤ A ∧ A ≤ big ∧ ∀ k, |g r k| ≤ A := by
  obtain ⟨A, hA, h⟩ := rowMax (by norm_num : 0 < 1536) (g r) big (hb r) (fun k => max ((g r k : ℝ) : EReal) (-((g r k : ℝ) : EReal))) fun k => rfl
  refine ⟨A, ?_, h⟩
  unfold rowTop
  refine (Ideal.multiReduction_maximumf_single (absf (F := Ideal) (φ := .bf16) x) 0xFF80#16 reduces_S512x1536_S512 (.inr rfl) rfl (ix1 r)).trans ?_
  rw [← hA]
  rw [show (FloatOps.ofBits (F := Ideal) .bf16 0xFF80#16) = (⊥ : EReal) from ofBits_bot16]
  refine congrArg (fun f => (Finset.univ : Finset (Fin 1536)).fold max (⊥ : EReal) f) (funext fun k => ?_)
  show max (x _) (-(x _)) = _
  rw [show (reduces_S512x1536_S512.lift (ix1 r) k) = ix2 r k from funext fun a => by match a with | ⟨0, _⟩ => rfl | ⟨1, _⟩ => rfl]
  exact congrArg (fun t : EReal => max t (-t)) (hg r k)

/-- How many of the powers of two exceed the row's scaled greatest size, as the word the kernel counts. -/
theorem count_at (A : ℝ) (r : Fin 512) (hA : rowTop x (ix1 r) = ((A : ℝ) : EReal)) (v : FVec Ideal S512x1 .f32) (hv : v (ix2 r (0 : Fin 1)) = ((A * cR : ℝ) : EReal))
    (pw : FVec Ideal S1x256 .f32) (hp : ∀ j : Fin 256, pw (ix2 (0 : Fin 1) j) = P j.val) (b1) (b2) (hh) (hr) :
    multiReductionI .add [1] S512 (extui 32 (cmpf (F := Ideal) (φ := .f32) .olt (broadcastTo S512x256 v b1) (broadcastTo S512x256 pw b2)) hh) 0#32 hr rfl (ix1 r)
      = BitVec.ofNat 32 (Finset.univ.filter fun j : Fin 256 => ((A * cR : ℝ) : EReal) < P j.val).card := by
  have e : ∀ j : Fin 256, (extui 32 (cmpf (F := Ideal) (φ := .f32) .olt (broadcastTo S512x256 v b1) (broadcastTo S512x256 pw b2)) hh (ix2 r j)).toNat
      = if ((A * cR : ℝ) : EReal) < P j.val then 1 else 0 := fun j => by
    show (BitVec.zeroExtend 32 (Ideal.cmp .olt (broadcastTo S512x256 v b1 (ix2 r j)) (broadcastTo S512x256 pw b2 (ix2 r j)))).toNat = _
    rw [column_at, broadcastTo_1b_ab_apply, hv, hp j]
    unfold Ideal.cmp
    by_cases h : ((A * cR : ℝ) : EReal) < P j.val
    · rw [if_pos h]; simp only [h, decide_true]; rfl
    · rw [if_neg h]; simp only [h, decide_false]; rfl
  have e2 : ∑ i ∈ Finset.univ.filter (fun i => hr.drop i = ix1 r), (extui 32 (cmpf (F := Ideal) (φ := .f32) .olt (broadcastTo S512x256 v b1) (broadcastTo S512x256 pw b2)) hh i).toNat
      = (Finset.univ.filter fun j : Fin 256 => ((A * cR : ℝ) : EReal) < P j.val).card := by
    rw [hr.sum_filter_drop_single (fun i => (extui 32 (cmpf (F := Ideal) (φ := .f32) .olt (broadcastTo S512x256 v b1) (broadcastTo S512x256 pw b2)) hh i).toNat), Finset.card_filter]
    refine Finset.sum_congr rfl fun j _ => ?_
    rw [show (hr.lift (ix1 r) j) = ix2 r j from funext fun a => by match a with | ⟨0, _⟩ => rfl | ⟨1, _⟩ => rfl]
    exact e j
  have hc : (Finset.univ.filter fun j : Fin 256 => ((A * cR : ℝ) : EReal) < P j.val).card ≤ 256 := (Finset.card_le_univ _).trans (by simp)
  apply BitVec.eq_of_toNat_eq
  refine (WordSum.toNat_multiReductionI_add _ hr rfl _ (by rw [e2]; omega)).trans ?_
  rw [e2, BitVec.toNat_ofNat, Nat.mod_eq_of_lt (by omega)]

/-- The words that count the powers of two above the scaled sizes. -/
def counted : IVec S512 32 :=
  multiReductionI .add [1] S512 (extui 32 (cmpf (F := Ideal) (φ := .f32) .olt
    (broadcastTo S512x256 (mulf (F := Ideal) (φ := .f32) (extf (F := Ideal) .f32 (shapeCast S512x1 (rowTop x) shapeCasts_S512_S512x1) bitsLt_bf16_f32) (broadcast S512x1 (Scalar.ofBits (F := Ideal) .f32 0x37924925#32))) broadcasts_S512x1_S512x256)
    (broadcastTo S512x256 (bitcastToFloat (F := Ideal) .f32 (shli (iota .tc S1x256 32 [1] iota_S1x256_d1_w32) (broadcast S1x256 23#32))) broadcasts_S1x256_S512x256)) natLt_1_32)
    0#32 reduces_S512x256_S512 rfl
/-- The exponents from the counts. -/
def finish (N : IVec S512 32) : IVec S512x1 32 :=
  have v40 : IVec S512x1 32 := subi (broadcast S512x1 255#32) (shapeCast S512x1 N shapeCasts_S512_S512x1)
  select (ori (cmpi .eq v40 (broadcast S512x1 0#32)) (cmpi .eq v40 (broadcast S512x1 255#32))) (broadcast S512x1 0#32) (subi v40 (broadcast S512x1 126#32))

theorem pay4_eq : k0_pay4 (F := Ideal) x = finish (counted x) := rfl

theorem finish_at (N : IVec S512 32) (r : Fin 512) : finish N (ix2 r (0 : Fin 1)) = Scalar.select (IntOp.ori (IntOp.cmpi .eq (IntOp.subi 255#32 (N (ix1 r))) 0#32)
    (IntOp.cmpi .eq (IntOp.subi 255#32 (N (ix1 r))) 255#32)) 0#32 (IntOp.subi (IntOp.subi 255#32 (N (ix1 r))) 126#32) := by
  rw [← shapeCast_a_a1_apply N shapeCasts_S512_S512x1 r (0 : Fin 1)]
  rfl

theorem shli_eq (e : BitVec 32) : IntOp.shli .vector e 23#32 = e <<< (23#32).toNat := if_pos (by decide)

theorem counted_at (A : ℝ) (r : Fin 512) (hA : rowTop x (ix1 r) = ((A : ℝ) : EReal)) :
    counted x (ix1 r) = BitVec.ofNat 32 (Finset.univ.filter fun j : Fin 256 => ((A * cR : ℝ) : EReal) < P j.val).card := by
  refine count_at x A r hA _ ?_ _ (fun j => ?_) _ _ _ _
  · have e := shapeCast_a_a1_apply (rowTop x) shapeCasts_S512_S512x1 r (0 : Fin 1)
    rw [hA] at e
    generalize shapeCast S512x1 (rowTop x) shapeCasts_S512_S512x1 = y at e
    show (y (ix2 r (0 : Fin 1)) : EReal) * (Ideal.ofBits .f32 0x37924925#32 : EReal) = _
    rw [e, ofBits_c, EReal.coe_mul]
  · show Ideal.ofBits .f32 (IntOp.shli .vector (iota .tc S1x256 32 [1] iota_S1x256_d1_w32 (ix2 (0 : Fin 1) j)) 23#32) = _
    rw [iota_single_apply, shli_eq]
    rfl

/-- The exponent that the kernel takes for a row. -/
theorem exponent_at (A : ℝ) (r : Fin 512) (hA : rowTop x (ix1 r) = ((A : ℝ) : EReal)) (h0 : 0 ≤ A) (hM : A ≤ big) :
    ∃ i : Nat, 0 < i ∧ i < 254 ∧ IntOp.addi 127#32 (k0_pay4 (F := Ideal) x (ix2 r (0 : Fin 1))) = BitVec.ofNat 32 i
      ∧ IntOp.subi 127#32 (k0_pay4 (F := Ideal) x (ix2 r (0 : Fin 1))) = BitVec.ofNat 32 (254 - i) ∧ A * cR < (2 : ℝ) ^ ((i : ℤ) - 127) := by
  obtain ⟨h16, h255, hx⟩ := count_spec (A * cR) (mul_nonneg h0 cR_pos.le) (lt_of_le_of_lt (mul_le_mul_of_nonneg_right hM cR_pos.le) big_small) _ rfl
  rw [pay4_eq, finish_at, counted_at x A r hA]
  generalize (Finset.univ.filter fun j : Fin 256 => ((A * cR : ℝ) : EReal) < P j.val).card = n at h16 h255 hx
  have hs : IntOp.subi 255#32 (BitVec.ofNat 32 n) = BitVec.ofNat 32 (255 - n) := by
    apply BitVec.eq_of_toNat_eq; show (255#32 - BitVec.ofNat 32 n).toNat = _
    rw [BitVec.toNat_sub, BitVec.toNat_ofNat, BitVec.toNat_ofNat]; simp; omega
  rw [hs]
  have he : ∀ m : Nat, m < 256 → IntOp.cmpi .eq (BitVec.ofNat 32 (255 - n)) (BitVec.ofNat 32 m) = BitVec.ofBool (decide (255 - n = m)) := fun m hm => by
    unfold IntOp.cmpi
    refine congrArg BitVec.ofBool ?_
    by_cases h : 255 - n = m
    · simp [h]
    · rw [decide_eq_false h]
      refine beq_eq_false_iff_ne.mpr fun e => ?_
      have := congrArg BitVec.toNat e
      rw [BitVec.toNat_ofNat, BitVec.toNat_ofNat] at this; omega
  rw [he 0 (by omega), he 255 (by omega)]
  rw [show decide (255 - n = 255) = false from decide_eq_false (by omega)]
  by_cases hz : 255 - n = 0
  · rw [hz]
    refine ⟨127, by norm_num, by norm_num, by decide, by decide, ?_⟩
    refine hx.trans_le ?_
    exact zpow_le_zpow_right₀ (by norm_num) (by omega)
  · rw [show decide (255 - n = 0) = false from decide_eq_false hz]
    refine ⟨256 - n, by omega, by omega, ?_, ?_, ?_⟩
    · apply BitVec.eq_of_toNat_eq
      show (127#32 + (BitVec.ofNat 32 (255 - n) - 126#32)).toNat = _
      simp [BitVec.toNat_add, BitVec.toNat_sub]; omega
    · apply BitVec.eq_of_toNat_eq
      show (127#32 - (BitVec.ofNat 32 (255 - n) - 126#32)).toNat = _
      simp [BitVec.toNat_add, BitVec.toNat_sub]; omega
    · rw [Nat.cast_sub (by omega)]; exact hx

/-- A row's scale is positive and each of its codes is the value over it. -/
theorem quantised (hg : ∀ r k, x (ix2 r k) = ((g r k : ℝ) : EReal)) (hb : ∀ r k, |g r k| ≤ big) (r : Fin 512) :
    ∃ p : ℝ, 0 < p ∧ (∀ l : Fin 128, scales (F := Ideal) x (ix2 r l) = ((p : ℝ) : EReal))
      ∧ ∀ k, codes (F := Ideal) x (ix2 r k) = ((g r k * p⁻¹ : ℝ) : EReal) := by
  obtain ⟨A, hA, h0, hM, hle⟩ := rowTop_at x g hg hb r
  obtain ⟨i, hi0, hi1, ha, hs, hlt⟩ := exponent_at x A r hA h0 hM
  have hld : View.ld x rDy = x := View.ld_unit_zero (by funext a; fin_cases a <;> rfl) _ x
  have e5 : k0_pay5 (F := Ideal) x (ix2 r (0 : Fin 1)) = (((2 : ℝ) ^ ((i : ℤ) - 127) : ℝ) : EReal) := by
    unfold k0_pay5
    generalize k0_pay4 (F := Ideal) x = E at ha hs
    show Ideal.ofBits .f32 (IntOp.shli .vector (IntOp.addi 127#32 (E (ix2 r (0 : Fin 1)))) 23#32) = _
    rw [ha, shli_eq]
    exact ofBits_pow i hi0 (by omega)
  have e6 : ∀ k, k0_pay6 (F := Ideal) x (ix2 r k) = max ((-57344 : ℝ) : EReal) (((g r k : ℝ) : EReal) * ((((2 : ℝ) ^ ((i : ℤ) - 127))⁻¹ : ℝ) : EReal)) := fun k => by
    unfold k0_pay6
    generalize k0_pay4 (F := Ideal) x = E at ha hs
    show max (Ideal.ofBits .bf16 0xC760#16) (x (ix2 r k) * broadcastTo S512x1536 (truncf (F := Ideal) (φ := .f32) .bf16
      (bitcastToFloat .f32 (shli (subi (broadcast S512x1 127#32) E) (broadcast S512x1 23#32))) bitsLt_bf16_f32) broadcasts_S512x1_S512x1536 (ix2 r k)) = _
    rw [column_at]
    show max (Ideal.ofBits .bf16 0xC760#16) (x (ix2 r k) * Ideal.ofBits .f32 (IntOp.shli .vector (IntOp.subi 127#32 (E (ix2 r (0 : Fin 1)))) 23#32)) = _
    rw [hs, hg r k, ofBits_lo, shli_eq, ofBits_pow (254 - i) (by omega) (by omega), ← zpow_neg,
      show ((254 - i : ℕ) : ℤ) - 127 = -((i : ℤ) - 127) by omega]
  refine ⟨(2 : ℝ) ^ ((i : ℤ) - 127), by positivity, fun l => ?_, fun k => ?_⟩
  · unfold scales k0_pay2
    rw [hld]
    generalize k0_pay5 (F := Ideal) x = z at e5
    simp only [shapeCast_self]
    rw [column_at, e5]
  · unfold codes k0_pay1
    rw [hld]
    have e6 := e6 k
    generalize k0_pay6 (F := Ideal) x = z at e6
    simp only [shapeCast_self]
    show min (Ideal.ofBits .bf16 0x4760#16) (z (ix2 r k)) = _
    rw [e6, ofBits_hi]
    exact clip_noop (hle k) (by positivity) hlt

end Cert.KernelIdeal.Hand
-- ==== Proof.Spec.lean ====
/-
  The product both programs compute, an element at a time: a row times the weights of the expert that owns it, scaled.
-/
module

public import proofs.«01_k».proof.Proof.Items
public import Idealize.ShloMosaic.Lib.ValueIdx
public import Idealize.ShloMosaic.PureOps.Ideal

@[expose] public section

noncomputable section

namespace Cert.Spec

open Cert.Items
open Idealize.ShloMosaic Idealize.ShloMosaic.ValueIdx
open scoped BigOperators

/-- The expert that owns a row: the number of experts whose rows end at or before it. -/
def own (s : Nat → Nat) (R : Fin 32768) : Fin 16 := Fin.ofNat 16 (Nat.count (fun q => cum s q ≤ R.val) 16)

/-- The result at row `R`, column `d`. -/
def val (x : (⟨2, ![32768, 1536]⟩ : Shape).Idx → EReal) (w : (⟨3, ![16, 7168, 1536]⟩ : Shape).Idx → EReal)
    (ws : (⟨2, ![16, 7168]⟩ : Shape).Idx → EReal) (s : Nat → Nat) (R : Fin 32768) (d : Fin 7168) : EReal :=
  (∑ k : Fin 1536, x (ix2 R k) * w (ix3 (own s R) d k)) * ws (ix2 (own s R) d)

end Cert.Spec
-- ==== Proof.OutI.lean ====
/-
  What the kernel's run leaves in the output, over the extended reals.
-/
module

public import proofs.«01_k».proof.Proof.StepI
public import proofs.«01_k».proof.Proof.QuantI
public import proofs.«01_k».proof.Proof.RunI3
public import proofs.«01_k».proof.Proof.Spec
public import Idealize.ShloMosaic.Lib.Pipeline.ValueKit.Geometry

@[expose] public section

set_option synthInstance.maxSize 4096
set_option maxRecDepth 16384

noncomputable section

namespace Cert.KernelIdeal.Hand

open Cert.KernelIdeal.Gen Cert.Items
open Idealize.ShloMosaic Idealize.ShloMosaic.TcCoe Idealize.ShloMosaic.Tactic Idealize.ShloMosaic.ValueIdx
open Idealize.ShloMosaic.Pipeline (Cfg PCfg Window Grid RDat)
open scoped BigOperators

variable (m : (ℓ : Loc nD τ sig) → Buf (Elt Ideal) ℓ) (hO : Ok m)
variable (s : Nat → Nat) (hx : ∀ e : Fin 16, gs m (ix1 e) = BitVec.ofNat 32 (s e.val)) (hs : cum s 15 = 32768)

abbrev dy : Vec Ideal S32768x1536 .bf16 := m ((0 : Dev nD), main_arg0)
abbrev wt : Vec Ideal S16x7168x1536 .fp8e4m3 := m ((0 : Dev nD), main_arg2)
abbrev wsc : Vec Ideal S16x7168 .f32 := m ((0 : Dev nD), main_arg3)

/-- The result the run is to leave. -/
abbrev res (R : Fin 32768) (d : Fin 7168) : EReal := Cert.Spec.val (dy m) (wt m) (wsc m) s R d

/-! ## The blocks read at an element -/

include hx hs

theorem dyb_at (t : Fin (cfgM m hO).N) (r : Fin 512) (k : Fin 1536) (R : Fin 32768) (hR : R.val = r.val + tile s t.val * 512) :
    dyb m hO 0 t (ix2 r k) = dy m (ix2 R k) := by
  have h0 := where0 m s hx hs t
  have e : V m 0 main_arg0 = m ((0 : Dev nD), main_arg0) := V_main_arg0 m 0
  unfold dy
  rw [← e]
  show V m 0 main_arg0 ((((cfgM m hO).win 0).rect t).emb (ix2 r k)) = _
  refine congrArg (V m 0 main_arg0) (funext fun a => Fin.ext ?_)
  refine (Pipeline.Window.rect_emb_val _ t _ a).trans ?_
  rw [index0, tr0 (tbl m) (tb0 m) rfl]
  match a with
  | ⟨0, _⟩ => show (wHere (tb0 m) (grid0.coords t)).toNat * 512 + r.val = R.val; omega
  | ⟨1, _⟩ => exact (congrArg (· + k.val) (Nat.zero_mul 1536)).trans (Nat.zero_add _)

theorem index1 (t : Fin (cfgM m hO).N) : ((cfgM m hO).win 1).index t = ![expert s t.val, 0, 0] := by
  rw [show ((cfgM m hO).win 1).index t = cc0_transform_1 k0_off1_inb numel1_S1 (tbl m) (grid0.coords t) from rfl, tr1 (tbl m) (tb1 m) rfl, where1 m s hx hs t]
theorem index2 (t : Fin (cfgM m hO).N) : ((cfgM m hO).win 2).index t = ![expert s t.val, 0, 0] := by
  rw [show ((cfgM m hO).win 2).index t = cc0_transform_2 k0_off1_inb numel1_S1 (tbl m) (grid0.coords t) from rfl, tr2 (tbl m) (tb1 m) rfl, where1 m s hx hs t]

theorem wb_at (t : Fin (cfgM m hO).N) (d : Fin 7168) (k : Fin 1536) (e : Fin 16) (he : e.val = expert s t.val) :
    wb m hO 0 t (ix3 (0 : Fin 1) d k) = wt m (ix3 e d k) := by
  have e' : V m 0 main_arg2 = m ((0 : Dev nD), main_arg2) := V_main_arg2 m 0
  unfold wt
  rw [← e']
  show V m 0 main_arg2 ((((cfgM m hO).win 1).rect t).emb (ix3 (0 : Fin 1) d k)) = _
  refine congrArg (V m 0 main_arg2) (funext fun a => Fin.ext ?_)
  refine (Pipeline.Window.rect_emb_val _ t _ a).trans ?_
  rw [index1 m hO s hx hs t]
  match a with
  | ⟨0, _⟩ => exact ((Nat.add_zero _).trans (Nat.mul_one _)).trans he.symm
  | ⟨1, _⟩ => exact (congrArg (· + d.val) (Nat.zero_mul 7168)).trans (Nat.zero_add _)
  | ⟨2, _⟩ => exact (congrArg (· + k.val) (Nat.zero_mul 1536)).trans (Nat.zero_add _)

theorem wsb_at' (t : Fin (cfgM m hO).N) (d : Fin 7168) (e : Fin 16) (he : e.val = expert s t.val) :
    wsb m hO 0 t (ix3 (0 : Fin 1) (0 : Fin 1) d) = V m 0 main_v58 (ix3 e (0 : Fin 1) d) := by
  show V m 0 main_v58 ((((cfgM m hO).win 2).rect t).emb (ix3 (0 : Fin 1) (0 : Fin 1) d)) = _
  refine congrArg (V m 0 main_v58) (funext fun a => Fin.ext ?_)
  refine (Pipeline.Window.rect_emb_val _ t _ a).trans ?_
  rw [index2 m hO s hx hs t]
  match a with
  | ⟨0, _⟩ => exact ((Nat.add_zero _).trans (Nat.mul_one _)).trans he.symm
  | ⟨1, _⟩ => rfl
  | ⟨2, _⟩ => exact (congrArg (· + d.val) (Nat.zero_mul 7168)).trans (Nat.zero_add _)

omit hx hs in
theorem scales_at (x : Vec Ideal S16x7168 .f32) (e : Fin 16) (d : Fin 7168) :
    broadcastInDim S16x1x7168 ![0, 2] bcast_S16x7168_S16x1x7168_0_2 x (ix3 e (0 : Fin 1) d) = x (ix2 e d) :=
  broadcastInDim_apply ![0, 2] bcast_S16x7168_S16x1x7168_0_2 x (ix3 e (0 : Fin 1) d) (ix2 e d) fun a => match a with
    | ⟨0, _⟩ => rfl
    | ⟨1, _⟩ => rfl

theorem wsb_at (t : Fin (cfgM m hO).N) (d : Fin 7168) (e : Fin 16) (he : e.val = expert s t.val) :
    wsb m hO 0 t (ix3 (0 : Fin 1) (0 : Fin 1) d) = wsc m (ix2 e d) :=
  (wsb_at' m hO s hx hs t d e he).trans ((congrFun (V_scales m) (ix3 e (0 : Fin 1) d)).trans (scales_at (wsc m) e d))

/-! ## A point's step at an element -/

variable (g : Fin 32768 → Fin 1536 → ℝ) (hg : ∀ R k, dy m (ix2 R k) = ((g R k : ℝ) : EReal)) (hb : ∀ R k, |g R k| ≤ Cert.Quant.big)

include hg hb

theorem outStep_at (t : Fin (cfgM m hO).N) (ht : t.val < total s) (Y : Vec Ideal S512x7168 .bf16) (r : Fin 512) (d : Fin 7168) (R : Fin 32768)
    (hR : R.val = r.val + tile s t.val * 512) :
    outStep m hO 0 t Y (ix2 r d) = if start s t.val ≤ R.val ∧ R.val < stop s t.val then res m s R d else Y (ix2 r d) := by
  have h64 := tile_lt s hs t.val
  have h79 := total_le s hs
  have hl : live (grid0.coords t) (tb4 m) := by
    rw [live_iff]
    have e : wOne (tb4 m) = BitVec.ofNat 32 (total s) := by
      rw [← tb4_at m s hx hs]
      refine congrArg (tb4 m) (funext fun a => Fin.ext ?_)
      obtain rfl : a = 0 := Subsingleton.elim _ _
      rfl
    rw [e]
    unfold Scalar.cmpi
    rw [WordCmp.cmpi_slt_ofNat (w := 32) (by omega) (by omega)]
    simp [ht]
  unfold outStep
  rw [if_pos hl, stepOut_at]
  have hst : stop s t.val ≤ 32768 := by
    have := cum_mono s (show expert s t.val ≤ 15 from Nat.le_of_lt_succ (expert_lt s hs t.val)); unfold stop; omega
  have hsa : start s t.val ≤ 32768 := by have := hst; unfold stop at this; unfold start; omega
  have hm : mine (wHere (tb0 m) (grid0.coords t)) (wHere (tb2 m) (grid0.coords t)) (wHere (tb3 m) (grid0.coords t)) r ↔ start s t.val ≤ R.val ∧ R.val < stop s t.val := by
    rw [wHere_eq, wHere_eq, wHere_eq, tb0_at m s hx hs ⟨t.val, lt79 t⟩, tb2_at m s hx hs ⟨t.val, lt79 t⟩, tb3_at m s hx hs ⟨t.val, lt79 t⟩,
      mine_iff _ _ _ h64 hsa hst, hR]
  unfold elem
  by_cases hc : start s t.val ≤ R.val ∧ R.val < stop s t.val
  · rw [if_pos (hm.mpr hc), if_pos hc]
    have hown : (Cert.Spec.own s R).val = expert s t.val := by
      unfold Cert.Spec.own
      rw [owner s hs hc.1 hc.2]
      exact Nat.mod_eq_of_lt (expert_lt s hs t.val)
    have hRR : ∀ r' : Fin 512, r'.val + tile s t.val * 512 < 32768 := fun r' => by have := r'.isLt; omega
    obtain ⟨p, hp, hz, hq⟩ := quantised (dyb m hO 0 t) (fun r' k => g ⟨r'.val + tile s t.val * 512, hRR r'⟩ k)
      (fun r' k => (dyb_at m hO s hx hs t r' k ⟨_, hRR r'⟩ rfl).trans (hg _ _)) (fun r' k => hb _ _) r
    have eR : (⟨r.val + tile s t.val * 512, hRR r⟩ : Fin 32768) = R := Fin.ext hR.symm
    rw [hz, wsb_at m hO s hx hs t d _ hown]
    unfold res Cert.Spec.val
    refine congrArg (· * _) ?_
    refine Eq.trans ?_ ((Cert.Quant.cancel (fun k => g R k) (fun k => wt m (ix3 (Cert.Spec.own s R) d k)) hp).trans ?_)
    · refine congrArg (· * _) (Finset.sum_congr rfl fun k _ => ?_)
      rw [hq, wb_at m hO s hx hs t d k _ hown, eR]
    · exact Finset.sum_congr rfl fun k _ => by rw [hg]
  · rw [if_neg (fun h => hc (hm.mp h)), if_neg hc]

theorem outStep_idle (t : Fin (cfgM m hO).N) (ht : ¬ t.val < total s) (Y : Vec Ideal S512x7168 .bf16) : outStep m hO 0 t Y = Y := by
  have h79 := total_le s hs
  have hl : ¬ live (grid0.coords t) (tb4 m) := by
    rw [live_iff]
    have e : wOne (tb4 m) = BitVec.ofNat 32 (total s) := by
      rw [← tb4_at m s hx hs]
      refine congrArg (tb4 m) (funext fun a => Fin.ext ?_)
      obtain rfl : a = 0 := Subsingleton.elim _ _
      rfl
    have := lt79 t
    rw [e]
    unfold Scalar.cmpi
    rw [WordCmp.cmpi_slt_ofNat (w := 32) (by omega) (by omega)]
    simp [ht]
  unfold outStep
  rw [if_neg hl]

/-- A step keeps an element that already holds the result. -/
theorem outStep_keeps (t : Fin (cfgM m hO).N) (Y : Vec Ideal S512x7168 .bf16) (r : Fin 512) (d : Fin 7168) (R : Fin 32768)
    (hR : R.val = r.val + tile s t.val * 512) (hY : Y (ix2 r d) = res m s R d) : outStep m hO 0 t Y (ix2 r d) = res m s R d := by
  by_cases ht : t.val < total s
  · rw [outStep_at m hO s hx hs g hg hb t ht Y r d R hR]
    split
    · rfl
    · exact hY
  · rw [outStep_idle m hO s hx hs g hg hb t ht]; exact hY

/-! ## The output's window -/

omit hg hb in
theorem index3 (t : Fin (cfgM m hO).N) : ((cfgM m hO).win 3).index t = ![tile s t.val, 0] := by
  rw [show ((cfgM m hO).win 3).index t = cc0_transform_3 k0_off1_inb numel1_S1 (tbl m) (grid0.coords t) from rfl, tr3 (tbl m) (tb0 m) rfl, where0 m s hx hs t]

omit hg hb in
theorem flush_iff (t : Fin (cfgM m hO).N) : ((cfgM m hO).win 3).flush t = true ↔ t.val + 1 = 79 ∨ tile s (t.val + 1) ≠ tile s t.val := by
  have hN : (cfgM m hO).grid.N = 79 := N_0
  unfold Window.flush
  rw [show ((cfgM m hO).win 3).isOut = true from rfl, Bool.true_and, Bool.or_eq_true, decide_eq_true_iff, decide_eq_true_iff]
  constructor
  · rintro (h | ⟨h, hne⟩)
    · exact .inl (h.trans hN)
    · refine .inr fun e => hne ?_
      rw [index3 m hO s hx hs, index3 m hO s hx hs, e]
  · rintro (h | h)
    · exact .inl (h.trans hN.symm)
    · by_cases hl : t.val + 1 = (cfgM m hO).grid.N
      · exact .inl hl
      · refine .inr ⟨by have := t.isLt; change t.val < (cfgM m hO).grid.N at this; omega, fun e => h ?_⟩
        rw [index3 m hO s hx hs, index3 m hO s hx hs] at e
        exact congrFun e 0

omit hg hb in
theorem last_of_tile : ∀ (j : Nat) (t : Fin (cfgM m hO).N), t.val + j + 1 = 79 →
    ∃ u : Fin (cfgM m hO).N, t.val ≤ u.val ∧ tile s u.val = tile s t.val ∧ ((cfgM m hO).win 3).flush u = true
  | 0, t, h => ⟨t, le_rfl, rfl, (flush_iff m hO s hx hs t).mpr (.inl h)⟩
  | j + 1, t, h => by
    have hN : (cfgM m hO).N = 79 := N_0
    by_cases e : tile s (t.val + 1) = tile s t.val
    · obtain ⟨u, h1, h2, h3⟩ := last_of_tile j ⟨t.val + 1, by omega⟩ (by show t.val + 1 + j + 1 = 79; omega)
      exact ⟨u, Nat.le_of_succ_le h1, h2.trans e, h3⟩
    · exact ⟨t, le_rfl, rfl, (flush_iff m hO s hx hs t).mpr (.inr e)⟩

/-- After a point, its buffer holds the result in every row some item up to the point filled. -/
theorem leaves_at : ∀ (n : Nat) (u : Fin (cfgM m hO).N) (hn : u.val = n) (X : Vec Ideal S512x7168 .bf16) (hX : (rdat m hO 0).Leaves 3 u X) (t' : Nat) (htu : t' ≤ u.val)
    (ht : t' < total s) (he : tile s t' = tile s u.val) (r : Fin 512) (d : Fin 7168) (R : Fin 32768) (hR : R.val = r.val + tile s u.val * 512)
    (h1 : start s t' ≤ R.val) (h2 : R.val < stop s t'), X (ix2 r d) = res m s R d := by
  intro n
  induction n with
  | zero =>
    rintro u hn X ⟨Y, hY, hX⟩ t' htu ht he r d R hR h1 h2
    replace hX := (after3 m hO 0 u Y X).mp hX
    obtain rfl : t' = u.val := by omega
    rw [hX]; exact (outStep_at m hO s hx hs g hg hb u ht Y r d R hR).trans (if_pos ⟨h1, h2⟩)
  | succ n ih =>
    rintro u hn X ⟨Y, hY, hX⟩ t' htu ht he r d R hR h1 h2
    replace hX := (after3 m hO 0 u Y X).mp hX
    by_cases htu' : t' = u.val
    · subst htu'
      rw [hX]; exact (outStep_at m hO s hx hs g hg hb u ht Y r d R hR).trans (if_pos ⟨h1, h2⟩)
    · rw [hX]
      have hlt : u.val - 1 < (cfgM m hO).N := Nat.lt_of_le_of_lt (Nat.sub_le _ _) u.isLt
      have a1 := tile_mono s hs (show t' ≤ u.val - 1 by omega)
      have a2 := tile_mono s hs (show u.val - 1 ≤ u.val by omega)
      have a3 : u.val - 1 + 1 = u.val := by omega
      have h79 := lt79 u
      refine outStep_keeps m hO s hx hs g hg hb u Y r d R hR ?_
      rcases ((rdat m hO 0).finds_of_pos (w := 3) (t := u) rfl (by omega) Y).mp hY with hf | hL
      · exfalso
        have := (flush_iff m hO s hx hs ⟨u.val - 1, hlt⟩).mp hf
        simp only [a3] at this
        omega
      · have e : tile s (u.val - 1) = tile s u.val := by omega
        exact ih ⟨u.val - 1, hlt⟩ (by simp only; omega) Y hL t' (by simp only; omega) ht (by simp only; omega) r d R (by simp only [e]; exact hR) h1 h2

/-- After the write-backs below a point, the array holds the result in every row of the blocks written back that an item filled. -/
theorem arrAt_at : ∀ (n : Nat) (A : Vec Ideal S32768x7168 .bf16) (hA : (rdat m hO 0).ArrAt 3 n A) (u : Fin (cfgM m hO).N) (hu : u.val < n)
    (hf : ((cfgM m hO).win 3).flush u = true) (t' : Nat) (htu : t' ≤ u.val) (ht : t' < total s) (he : tile s t' = tile s u.val) (R : Fin 32768) (d : Fin 7168)
    (hR : R.val / 512 = tile s u.val) (h1 : start s t' ≤ R.val) (h2 : R.val < stop s t'), A (ix2 R d) = res m s R d := by
  intro n
  induction n with
  | zero => intro A hA u hu; exact absurd hu (Nat.not_lt_zero _)
  | succ n ih =>
    intro A hA u hu hf t' htu ht he R d hR h1 h2
    by_cases hn : n < (cfgM m hO).N
    swap
    · have := u.isLt
      unfold RDat.ArrAt at hA
      rw [dif_neg hn] at hA
      exact ih A hA u (by omega) hf t' htu ht he R d hR h1 h2
    rw [show n + 1 = (⟨n, hn⟩ : Fin (cfgM m hO).N).val + 1 from rfl, RDat.ArrAt_succ] at hA
    by_cases hfn : ((cfgM m hO).win 3).flush ⟨n, hn⟩ = true
    · rw [if_pos hfn] at hA
      unfold RDat.ArrStep at hA
      obtain ⟨G₀, X, hG₀, hX, hE⟩ := hA
      by_cases hin : tile s n = R.val / 512
      · have hr : R.val % 512 < 512 := Nat.mod_lt _ (by decide)
        have hd := Nat.div_add_mod R.val 512
        have eR : ix2 R d = (((cfgM m hO).win 3).blk ⟨n, hn⟩).view.emb (ix2 (⟨R.val % 512, hr⟩ : Fin 512) d) := by
          show ix2 R d = (((cfgM m hO).win 3).rect ⟨n, hn⟩).emb (ix2 (⟨R.val % 512, hr⟩ : Fin 512) d)
          refine funext fun a => Fin.ext (Eq.symm ?_)
          refine (Pipeline.Window.rect_emb_val ((cfgM m hO).win 3) ⟨n, hn⟩ _ a).trans ?_
          rw [index3 m hO s hx hs]
          match a with
          | ⟨0, _⟩ => show tile s n * 512 + R.val % 512 = R.val; omega
          | ⟨1, _⟩ => exact (congrArg (· + d.val) (Nat.zero_mul 7168)).trans (Nat.zero_add _)
        have hw := leaves_at m hO s hx hs g hg hb n ⟨n, hn⟩ rfl X hX t' (by simp only; omega) ht (by simp only; omega) ⟨R.val % 512, hr⟩ d R (by simp only; omega) h1 h2
        rw [hE, eR]
        exact (View.write_emb_of_mem _ _ (Finset.mem_univ _)).trans hw
      · have hne : u.val ≠ n := by rintro rfl; omega
        rw [hE]
        refine (View.write_of_not_mem _ _ _ ?_).trans (ih G₀ hG₀ u (by omega) hf t' htu ht he R d hR h1 h2)
        intro hmem
        have := (Pipeline.Window.emb_mem_blk_iff ((cfgM m hO).win 3) ⟨n, hn⟩ (ix2 R d)).mp hmem ⟨0, (by decide : 0 < 2)⟩
        rw [index3 m hO s hx hs] at this
        change tile s n * 512 ≤ R.val ∧ R.val < tile s n * 512 + 512 at this
        omega
    · rw [if_neg hfn] at hA
      have hne : u.val ≠ n := by
        intro e
        have : u = ⟨n, hn⟩ := Fin.ext e
        exact hfn (this ▸ hf)
      exact ih A hA u (by omega) hf t' htu ht he R d hR h1 h2

/-- The output array at a run's end. -/
theorem out_at (A : Vec Ideal S32768x7168 .bf16) (hA : (rdat m hO 0).ArrAt 3 (cfgM m hO).N A) (R : Fin 32768) (d : Fin 7168) :
    A (ix2 R d) = res m s R d := by
  have hN : (cfgM m hO).N = 79 := N_0
  obtain ⟨t', ht, ht', h1, h2⟩ := covered s hs R.isLt
  have h79 := total_le s hs
  obtain ⟨u, hu1, hu2, hu3⟩ := last_of_tile m hO s hx hs (79 - (t' + 1)) ⟨t', by omega⟩ (by simp only; omega)
  exact arrAt_at m hO s hx hs g hg hb _ A hA u u.isLt hu3 t' hu1 ht hu2.symm R d (by rw [hu2]; exact ht'.symm) h1 h2

end Cert.KernelIdeal.Hand
-- ==== Proof.QuantR.lean ====
/-
  The reference's quantiser over the extended reals: a row's scale is positive and each of its codes is the value over it.
-/
module

public import proofs.«01_k».proof.Proof.Quant
public import proofs.«01_k».proof.Proof.Gen.ReferenceIdeal.Value
public import Idealize.ShloMosaic.Lib.IdealHost
public import Idealize.ShloMosaic.Lib.MatmulPlain
public import Idealize.ShloMosaic.Lib.ValueLayout
public import Idealize.ShloMosaic.Lib.ValueLayoutCasts
public import Mathlib.Analysis.SpecialFunctions.Pow.Real

@[expose] public section

set_option synthInstance.maxSize 4096
set_option maxRecDepth 16384

noncomputable section

namespace Cert.ReferenceIdeal.Hand

open Cert.ReferenceIdeal.Gen Cert.Quant
open Idealize.ShloMosaic Idealize.ShloMosaic.TcCoe Idealize.ShloMosaic.Tactic Idealize.ShloMosaic.ValueIdx
open scoped BigOperators

theorem column_at {α : Type} {a b : Nat} (x : (⟨2, ![a, 1]⟩ : Shape).Idx → α) (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h _ _ fun d => ?_
  match d with
  | ⟨0, _⟩ =>
    show r.val = if a = 1 then 0 else r.val
    split
    · have := r.isLt; omega
    · rfl
  | ⟨1, _⟩ => rfl

/-- A positive number lies below two to one more than its logarithm's whole part. -/
theorem lt_pow {x : ℝ} (hx : 0 < x) : x < (2 : ℝ) ^ (((⌊Real.log x * (Real.log 2)⁻¹⌋ : ℤ) : ℝ) + 1) := by
  have h2 : 0 < Real.log 2 := Real.log_pos (by norm_num)
  have h := Int.lt_floor_add_one (Real.log x * (Real.log 2)⁻¹)
  have h' : Real.log x < Real.log 2 * (((⌊Real.log x * (Real.log 2)⁻¹⌋ : ℤ) : ℝ) + 1) := by
    have := mul_lt_mul_of_pos_left h h2
    have e : Real.log 2 * (Real.log x * (Real.log 2)⁻¹) = Real.log x := by field_simp
    rw [e] at this
    exact this
  rw [Real.rpow_def_of_pos (by norm_num : (0 : ℝ) < 2)]
  calc x = Real.exp (Real.log x) := (Real.exp_log hx).symm
    _ < _ := Real.exp_lt_exp.mpr h'

variable (x : Vec Ideal S32768x1536 .bf16) (g : Fin 32768 → Fin 1536 → ℝ)

/-- The row's greatest size. -/
def rowTop : FVec Ideal S32768 .f32 :=
  multiReduction (F := Ideal) .maximumf [1] S32768 (absf (F := Ideal) (φ := .f32) (k0_pay1 (F := Ideal) x)) 0xFF800000#32 reduces_S32768x1536_S32768 (.inl rfl) rfl

theorem rowTop_at (hg : ∀ r k, x (ix2 r k) = ((g r k : ℝ) : EReal)) (hb : ∀ r k, |g r k| ≤ big) (r : Fin 32768) :
    ∃ A : ℝ, rowTop x (ix1 r) = ((A : ℝ) : EReal) ∧ 0 ≤ A ∧ A ≤ big ∧ ∀ k, |g r k| ≤ A := by
  obtain ⟨A, hA, h⟩ := rowMax (by norm_num : 0 < 1536) (g r) big (hb r) (fun k => max ((g r k : ℝ) : EReal) (-((g r k : ℝ) : EReal))) fun k => rfl
  refine ⟨A, ?_, h⟩
  unfold rowTop
  refine (Ideal.multiReduction_maximumf_single (absf (F := Ideal) (φ := .f32) (k0_pay1 (F := Ideal) x)) 0xFF800000#32 reduces_S32768x1536_S32768 (.inl rfl) rfl (ix1 r)).trans ?_
  rw [← hA]
  rw [show (FloatOps.ofBits (F := Ideal) .f32 0xFF800000#32) = (⊥ : EReal) from ofBits_bot32]
  refine congrArg (fun f => (Finset.univ : Finset (Fin 1536)).fold max (⊥ : EReal) f) (funext fun k => ?_)
  show max (x _) (-(x _)) = _
  rw [show (reduces_S32768x1536_S32768.lift (ix1 r) k) = ix2 r k from funext fun a => by match a with | ⟨0, _⟩ => rfl | ⟨1, _⟩ => rfl]
  exact congrArg (fun t : EReal => max t (-t)) (hg r k)

/-- The exponents from the rows' greatest sizes. -/
def expo (v4 : FVec Ideal S32768x1 .f32) : FVec Ideal S32768x1 .f32 :=
  select (cmpf (F := Ideal) (φ := .f32) .oeq v4 (broadcast S32768x1 (Scalar.ofBits (F := Ideal) .f32 0x00000000#32))) (broadcast S32768x1 (Scalar.ofBits (F := Ideal) .f32 0x00000000#32))
    (addf (F := Ideal) (φ := .f32) (floor (F := Ideal) (φ := .f32) (divf (F := Ideal) (φ := .f32)
      (log (F := Ideal) (φ := .f32) (mulf (F := Ideal) (φ := .f32) v4 (broadcast S32768x1 (Scalar.ofBits (F := Ideal) .f32 0x37924925#32))))
      (broadcast S32768x1 (Scalar.log (F := Ideal) (φ := .f32) (Scalar.ofBits (F := Ideal) .f32 0x40000000#32)))))
      (broadcast S32768x1 (Scalar.ofBits (F := Ideal) .f32 0x3F800000#32)))

theorem pay2_eq : k0_pay2 (F := Ideal) x = expo (shapeCast S32768x1 (rowTop x) shapeCasts_S32768_S32768x1) := by
  unfold k0_pay2 expo rowTop
  rfl

theorem expo_apply (y : FVec Ideal S32768x1 .f32) (i : S32768x1.Idx) : expo y i =
  Scalar.select (Ideal.cmp .oeq (y i) (Ideal.ofBits .f32 0x00000000#32)) (Ideal.ofBits .f32 0x00000000#32 : EReal)
    (Ideal.liftRound Int.floor (Ideal.div (Ideal.log ((y i : EReal) * (Ideal.ofBits .f32 0x37924925#32 : EReal))) (Ideal.log (Ideal.ofBits .f32 0x40000000#32))) + (Ideal.ofBits .f32 0x3F800000#32 : EReal) : EReal) := by
  unfold expo
  rfl

/-- The exponent of a row: a real number, two to which exceeds the row's scaled greatest size. -/
theorem expo_at (y : FVec Ideal S32768x1 .f32) (A : ℝ) (h0 : 0 ≤ A) (i : S32768x1.Idx) (hy : y i = ((A : ℝ) : EReal)) :
    ∃ e : ℝ, expo y i = ((e : ℝ) : EReal) ∧ A * cR < (2 : ℝ) ^ e := by
  rw [expo_apply, hy, ofBits_c, ofBits_two, Ideal.ofBits_zero_f32, Ideal.ofBits_one_f32]
  by_cases hA : A = 0
  · subst hA
    refine ⟨0, ?_, by norm_num⟩
    rw [show Ideal.cmp .oeq (((0 : ℝ) : EReal)) 0 = 1#1 from by unfold Ideal.cmp; simp]
    rfl
  · have hp : 0 < A := lt_of_le_of_ne h0 (Ne.symm hA)
    have hpc : 0 < A * cR := mul_pos hp cR_pos
    have h2 : 0 < Real.log 2 := Real.log_pos (by norm_num)
    refine ⟨_, ?_, lt_pow hpc⟩
    rw [show Ideal.cmp .oeq (((A : ℝ) : EReal)) 0 = 0#1 from by unfold Ideal.cmp; simp [hA]]
    rw [← EReal.coe_mul, Ideal.log_coe, Ideal.log_coe, if_neg (not_le.mpr hpc), if_neg (by norm_num)]
    unfold Ideal.div
    rw [if_neg (by exact_mod_cast h2.ne'), ← EReal.coe_inv, ← EReal.coe_mul]
    show Ideal.liftRound Int.floor ((Real.log (A * cR) * (Real.log 2)⁻¹ : ℝ) : EReal) + 1 = _
    rw [show Ideal.liftRound Int.floor ((Real.log (A * cR) * (Real.log 2)⁻¹ : ℝ) : EReal) = (((⌊Real.log (A * cR) * (Real.log 2)⁻¹⌋ : ℤ) : ℝ) : EReal) from rfl]
    rw [EReal.coe_add, EReal.coe_one]

theorem pay2_at (hg : ∀ r k, x (ix2 r k) = ((g r k : ℝ) : EReal)) (hb : ∀ r k, |g r k| ≤ big) (r : Fin 32768) :
    ∃ A e : ℝ, k0_pay2 (F := Ideal) x (ix2 r (0 : Fin 1)) = ((e : ℝ) : EReal) ∧ A * cR < (2 : ℝ) ^ e ∧ ∀ k, |g r k| ≤ A := by
  obtain ⟨A, hA, h0, hM, hle⟩ := rowTop_at x g hg hb r
  obtain ⟨e, he, hlt⟩ := expo_at (shapeCast S32768x1 (rowTop x) shapeCasts_S32768_S32768x1) A h0 (ix2 r (0 : Fin 1))
    ((shapeCast_a_a1_apply (rowTop x) shapeCasts_S32768_S32768x1 r (0 : Fin 1)).trans hA)
  exact ⟨A, e, (congrFun (pay2_eq x) (ix2 r (0 : Fin 1))).trans he, hlt, hle⟩

theorem pay3_eq : k0_pay3 (F := Ideal) x = exp2 (F := Ideal) (φ := .f32) (k0_pay2 (F := Ideal) x) := by
  unfold k0_pay3
  rfl

theorem exp2_apply (E : FVec Ideal S32768x1 .f32) (i : S32768x1.Idx) : exp2 (F := Ideal) (φ := .f32) E i = Ideal.exp2 (E i) := rfl

theorem pay3_apply (i : S32768x1.Idx) : k0_pay3 (F := Ideal) x i = Ideal.exp2 (k0_pay2 (F := Ideal) x i) := by
  rw [pay3_eq, exp2_apply]

/-- The rows' inverse scales from the exponents. -/
def inverses (E : FVec Ideal S32768x1 .f32) : FVec Ideal S32768x1 .f32 :=
  exp2 (F := Ideal) (φ := .f32) (subf (F := Ideal) (φ := .f32) (broadcast S32768x1 (Scalar.ofBits (F := Ideal) .f32 0x00000000#32)) E)

/-- The clipped codes from the rows' inverse scales spread over the columns. -/
def clipped (v1 D : FVec Ideal S32768x1536 .f32) : FVec Ideal S32768x1536 .fp8e5m2 :=
  truncf (F := Ideal) (φ := .f32) .fp8e5m2 (minimumf (F := Ideal) (φ := .f32) (broadcast S32768x1536 (Scalar.ofBits (F := Ideal) .f32 0x47600000#32))
    (maximumf (F := Ideal) (φ := .f32) (broadcast S32768x1536 (Scalar.ofBits (F := Ideal) .f32 0xC7600000#32)) (mulf (F := Ideal) (φ := .f32) v1 D))) bitsLt_fp8e5m2_f32

theorem pay4_eq : k0_pay4 (F := Ideal) x = clipped (k0_pay1 (F := Ideal) x) (broadcastTo S32768x1536 (inverses (k0_pay2 (F := Ideal) x)) broadcasts_S32768x1_S32768x1536) := by
  unfold k0_pay4 clipped inverses
  rfl

theorem clipped_apply (v1 D : FVec Ideal S32768x1536 .f32) (i : S32768x1536.Idx) :
    clipped v1 D i = min (Ideal.ofBits .f32 0x47600000#32) (max (Ideal.ofBits .f32 0xC7600000#32) ((v1 i : EReal) * (D i : EReal))) := by
  unfold clipped
  rfl

theorem inverses_apply (E : FVec Ideal S32768x1 .f32) (i : S32768x1.Idx) : inverses E i = Ideal.exp2 ((Ideal.ofBits .f32 0x00000000#32 : EReal) - (E i : EReal)) := by
  unfold inverses
  rfl

theorem pay1_apply (i : S32768x1536.Idx) : k0_pay1 (F := Ideal) x i = x i := by
  unfold k0_pay1
  rfl

/-- A row's clipped codes from the exponents. -/
theorem pay4_apply (r : Fin 32768) (k : Fin 1536) : k0_pay4 (F := Ideal) x (ix2 r k) =
    min (Ideal.ofBits .f32 0x47600000#32) (max (Ideal.ofBits .f32 0xC7600000#32)
      ((x (ix2 r k) : EReal) * Ideal.exp2 ((Ideal.ofBits .f32 0x00000000#32 : EReal) - k0_pay2 (F := Ideal) x (ix2 r (0 : Fin 1))))) := by
  rw [pay4_eq, clipped_apply, column_at, inverses_apply, pay1_apply]

theorem quantised (hg : ∀ r k, x (ix2 r k) = ((g r k : ℝ) : EReal)) (hb : ∀ r k, |g r k| ≤ big) (r : Fin 32768) :
    ∃ p : ℝ, 0 < p ∧ k0_pay3 (F := Ideal) x (ix2 r (0 : Fin 1)) = ((p : ℝ) : EReal) ∧ ∀ k, k0_pay4 (F := Ideal) x (ix2 r k) = ((g r k * p⁻¹ : ℝ) : EReal) := by
  obtain ⟨A, e, he, hlt, hle⟩ := pay2_at x g hg hb r
  have hp : (0 : ℝ) < 2 ^ e := Real.rpow_pos_of_pos (by norm_num) _
  refine ⟨2 ^ e, hp, ?_, fun k => ?_⟩
  · rw [pay3_apply, he]; rfl
  · have hz : Ideal.exp2 ((0 : EReal) - ((e : ℝ) : EReal)) = ((((2 : ℝ) ^ e)⁻¹ : ℝ) : EReal) := by
      rw [zero_sub, ← EReal.coe_neg, Ideal.exp2_coe, ← Real.rpow_neg (by norm_num : (0 : ℝ) ≤ 2)]
      rfl
    rw [pay4_apply, he, hg r k, ofBits_hi32, ofBits_lo32, Ideal.ofBits_zero_f32, hz]
    exact clip_noop (hle k) hp hlt

end Cert.ReferenceIdeal.Hand
-- ==== Proof.ChainR.lean ====
/-
  The reference's result as two chains of selections, one over the experts' products and one over the experts' scales.
-/
module

public import proofs.«01_k».proof.Proof.QuantR
public import Idealize.ShloMosaic.Lib.Pipeline.ValueKit.Tiles

@[expose] public section

set_option synthInstance.maxSize 4096
set_option maxRecDepth 16384

noncomputable section

namespace Cert.ReferenceIdeal.Hand

open Cert.ReferenceIdeal.Gen
open Idealize.ShloMosaic Idealize.ShloMosaic.TcCoe Idealize.ShloMosaic.Tactic Idealize.ShloMosaic.ValueIdx

variable {F : FTy → Type} [FloatOps F]

/-- Where the rows' expert is `g`. -/
def mask (v : IVec S32768x1 32) (g : BitVec 32) : IVec S32768x7168 1 :=
  broadcastTo S32768x7168 (shapeCast S32768x1 (cmpi .eq v (broadcast S32768x1 g)) shapeCasts_S32768x1_S32768x1) broadcasts_S32768x1_S32768x7168

/-- One expert's values where the rows are its own, the former values elsewhere. -/
def pick (v : IVec S32768x1 32) (g : BitVec 32) (A prev : FVec F S32768x7168 .f32) : FVec F S32768x7168 .f32 := select (mask v g) A prev

/-- The first `n` experts' values, each where the rows are its own. -/
def picks (v : IVec S32768x1 32) (A : Nat → FVec F S32768x7168 .f32) (z : FVec F S32768x7168 .f32) : Nat → FVec F S32768x7168 .f32
  | 0 => z
  | n + 1 => pick v (BitVec.ofNat 32 n) (A n) (picks v A z n)

theorem picks_all (v : IVec S32768x1 32) (A : Nat → FVec F S32768x7168 .f32) (z : FVec F S32768x7168 .f32) :
    picks v A z 16 = pick v 15#32 (A 15) (pick v 14#32 (A 14) (pick v 13#32 (A 13) (pick v 12#32 (A 12) (pick v 11#32 (A 11) (pick v 10#32 (A 10) (pick v 9#32 (A 9)
      (pick v 8#32 (A 8) (pick v 7#32 (A 7) (pick v 6#32 (A 6) (pick v 5#32 (A 5) (pick v 4#32 (A 4) (pick v 3#32 (A 3) (pick v 2#32 (A 2) (pick v 1#32 (A 1)
      (pick v 0#32 (A 0) z))))))))))))))) := rfl

/-- The codes' product with one expert's weights. -/
def prod (q : FVec F S32768x1536 .fp8e5m2) (w : Vec F S1x7168x1536 .fp8e4m3) : FVec F S32768x7168 .f32 :=
  matmul (φ₁ := .fp8e5m2) (φ₂ := .fp8e4m3) dot_S32768x1536_S7168x1536_S32768x7168_1_1_0_0_n_n none q (shapeCast S7168x1536 w shapeCasts_S1x7168x1536_S7168x1536 : FVec F S7168x1536 .fp8e4m3) (constant S32768x7168 .f32 0x00000000#32)

/-- One expert's scales in every row. -/
def spread (u : Vec F S1x7168 .f32) : FVec F S32768x7168 .f32 :=
  broadcastTo S32768x7168 (shapeCast S1x7168 (shapeCast S1x7168 (shapeCast S7168 u shapeCasts_S1x7168_S7168) shapeCasts_S7168_S1x7168) shapeCasts_S1x7168_S1x7168) broadcasts_S1x7168_S32768x7168

/-- The scaled and rounded end of a row. -/
def close (p : FVec F S32768x1 .f32) (a sc : FVec F S32768x7168 .f32) : FVec F S32768x7168 .bf16 :=
  truncf .bf16 (mulf (mulf a (broadcastTo S32768x7168 p broadcasts_S32768x1_S32768x7168)) sc) bitsLt_bf16_f32

/-- One expert's weights, and one expert's scales. -/
def slab (w : Vec F S16x7168x1536 .fp8e4m3) (n : Nat) : Vec F S1x7168x1536 .fp8e4m3 := fun j => w (ix3 (Fin.ofNat 16 n) (j 1) (j 2))
def line (u : Vec F S16x7168 .f32) (n : Nat) : Vec F S1x7168 .f32 := fun j => u (ix2 (Fin.ofNat 16 n) (j 1))

theorem ld_slab (w : Vec F S16x7168x1536 .fp8e4m3) (n : Nat) (inb) :
    View.ld w (Rect.unit (s := S16x7168x1536) ![n, 0, 0] S1x7168x1536.size inb) = slab w n := by
  have hn : n < 16 := inb (0 : Fin 3)
  funext j
  refine View.ld_unit_apply_of w _ _ inb j _ fun a => ?_
  match a with
  | ⟨0, _⟩ =>
    have h0 : (j 0).val < 1 := (j 0).isLt
    show n % 16 = n + (j 0).val
    omega
  | ⟨1, _⟩ => show (j 1).val = 0 + (j 1).val; omega
  | ⟨2, _⟩ => show (j 2).val = 0 + (j 2).val; omega

theorem ld_line (u : Vec F S16x7168 .f32) (n : Nat) (inb) :
    View.ld u (Rect.unit (s := S16x7168) ![n, 0] S1x7168.size inb) = line u n := by
  have hn : n < 16 := inb (0 : Fin 2)
  funext j
  refine View.ld_unit_apply_of u _ _ inb j _ fun a => ?_
  match a with
  | ⟨0, _⟩ =>
    have h0 : (j 0).val < 1 := (j 0).isLt
    show n % 16 = n + (j 0).val
    omega
  | ⟨1, _⟩ => show (j 1).val = 0 + (j 1).val; omega

variable (x0 : Vec F S32768x1536 .bf16) (x1 : Vec F S32768x1 .i32) (x2 : Vec F S16x7168x1536 .fp8e4m3) (x3 : Vec F S16x7168 .f32)

theorem out_eq : out0_4 x0 x1 x2 x3 = close (k0_pay3 x0) (picks (k0_pay5 x1) (fun n => prod (k0_pay4 x0) (slab x2 n)) k0_pay6 16)
    (picks (k0_pay5 x1) (fun n => spread (line x3 n)) k0_pay7 16) := by
  unfold out0_4 k0_pay42 k0_pay41 k0_pay40 k0_pay39
  simp only [ld_slab, ld_line]
  rw [View.ld_unit_zero (by funext a; fin_cases a <;> rfl) _ x0, View.ld_unit_zero (by funext a; fin_cases a <;> rfl) _ x1]
  refine (View.canon_unit_zero (by funext a; fin_cases a <;> rfl) _ _).trans ?_
  rw [picks_all, picks_all]
  unfold k0_pay9 k0_pay10
  unfold k0_pay8
  generalize k0_pay3 x0 = p
  generalize k0_pay4 x0 = q
  generalize k0_pay5 x1 = v
  generalize (k0_pay6 : FVec F S32768x7168 .f32) = za
  generalize (k0_pay7 : FVec F S32768x7168 .f32) = zs
  generalize slab x2 = W
  generalize line x3 = U
  unfold k0_pay38 k0_pay37 k0_pay35 k0_pay30 k0_pay28 k0_pay26 k0_pay24 k0_pay23 k0_pay20 k0_pay19 k0_pay17 k0_pay14 k0_pay13 k0_pay32
  unfold k0_pay31 k0_pay36 k0_pay34 k0_pay33 k0_pay29 k0_pay27 k0_pay25 k0_pay22 k0_pay21 k0_pay18 k0_pay16 k0_pay15 k0_pay12 k0_pay11
  unfold close pick mask prod spread
  rfl

end Cert.ReferenceIdeal.Hand
-- ==== Proof.HostR.lean ====
/-
  The reference's column of owners, read as numbers: a row's owner is the number of experts whose rows end at or before it.
-/
module

public import proofs.«01_k».proof.Proof.Tables
public import proofs.«01_k».proof.Proof.Gen.ReferenceIdeal.Value
public import Idealize.ShloMosaic.Lib.StableHlo.RunRead

@[expose] public section

set_option synthInstance.maxSize 4096
set_option maxRecDepth 16384

noncomputable section

namespace Cert.ReferenceIdeal.Hand

open Cert.ReferenceIdeal.Gen Cert.Items
open Idealize.ShloMosaic Idealize.ShloMosaic.TcCoe Idealize.ShloMosaic.Tactic Idealize.ShloMosaic.ValueIdx
open Idealize.ShloMosaic.Routing Idealize.ShloMosaic.WordCmp

variable {F : FTy → Type} [FloatOps F]
variable (m : (ℓ : Loc nD τ sig) → Buf (Elt F) ℓ)

/-- The group sizes. -/
abbrev gs : IVec S16 32 := m ((0 : Dev nD), main_arg1)

/-- Where each expert's rows end. -/
def ends : IVec S16 32 :=
  Host.reduceWindow IntOp.addi ![16] ![1] ![15] ![0] (gs m) (broadcastInDim S_ ![] bcast_S_S_ (constantI S_ 32 0#32)) reduceWindows_S16_S16_w16s1p15_0 h_S_
def counts : IVec S32768 32 :=
  Host.reduce IntOp.addi (extui 32 (cmpi .sge (broadcastInDim S32768x16 ![0, 1] bcast_S32768x1_S32768x16_0_1 (broadcastInDim S32768x1 ![0] bcast_S32768_S32768x1_0 (iotaInDim S32768 32 0)))
    (broadcastInDim S32768x16 ![0, 1] bcast_S1x16_S32768x16_0_1 (broadcastInDim S1x16 ![1] bcast_S16_S1x16_1 (ends m)))) natLt_1_32)
    (constantI S_ 32 0#32) reducesTo_S32768x16_S32768_d1 h_S_

def U0 : Valuation τ sig (Elt F) := StableHlo.after hostOps0 (fun b => m ((0 : Dev nD), b))

theorem U0_v0 : U0 m main_v0 = ends m := by
  unfold U0
  after_reads_simp
  simp -implicitDefEqProofs only [StableHlo.TRef.toBuf, StableHlo.TRef.ofBuf, cast_cast, cast_eq]
  rfl

theorem V_after (b : Ref sig .tc) : V m 0 b = StableHlo.after hostOps0_1 (U0 m) b := by
  unfold U0
  show StableHlo.after (List.flatten [hostOps0, hostOps0_1]) _ _ = _
  rfl

theorem V_owner : V m 0 main_v9 = broadcastInDim S32768x1 ![0] bcast_S32768_S32768x1_0 (counts m) := by
  rw [V_after]
  after_reads_simp
  rw [U0_v0]
  rfl

variable (s : Nat → Nat) (hx : ∀ e : Fin 16, gs m (ix1 e) = BitVec.ofNat 32 (s e.val)) (hs : cum s 15 = 32768)
include hx hs

theorem ends_at (e : Fin 16) : ends m (ix1 e) = BitVec.ofNat 32 (cum s e.val) := by
  unfold ends
  exact cumsum1 (show 15 + 1 = 16 from rfl) (gs m) s hx _ (by rw [bc0]; rfl) _ _ e

theorem owner_at (R : Fin 32768) : V m 0 main_v9 (ix2 R (0 : Fin 1)) = BitVec.ofNat 32 (Nat.count (fun q => cum s q ≤ R.val) 16) := by
  refine (congrFun (V_owner m) (ix2 R (0 : Fin 1))).trans ?_
  rw [bcCol]
  unfold counts
  refine reduce_count (by decide) _ _ _ _ R (fun q => cum s q ≤ R.val) fun q => ?_
  have hq := cum_mono s (show q.val ≤ 15 by omega)
  have hR := R.isLt
  rw [cmpi_at, bcRows, bcCols, iota1_ap, ends_at m s hx hs q]
  show BitVec.ofBool ((BitVec.ofNat 32 (cum s q.val)).sle (BitVec.ofNat 32 R.val)) = 1#1 ↔ _
  rw [sle_ofNat32 (by omega) (by omega)]
  by_cases hc : cum s q.val ≤ R.val <;> simp [hc]

end Cert.ReferenceIdeal.Hand
-- ==== Proof.ResR.lean ====
/-
  The reference's result, read at an element: a row times the weights of the expert that owns it, scaled.
-/
module

public import proofs.«01_k».proof.Proof.ChainR
public import proofs.«01_k».proof.Proof.HostR
public import proofs.«01_k».proof.Proof.Spec
public import Idealize.ShloMosaic.Lib.Pipeline.ValueKit.Geometry

@[expose] public section

set_option synthInstance.maxSize 4096
set_option maxRecDepth 16384

noncomputable section

namespace Cert.ReferenceIdeal.Hand

open Cert.ReferenceIdeal.Gen Cert.Items Cert.Quant
open Idealize.ShloMosaic Idealize.ShloMosaic.TcCoe Idealize.ShloMosaic.Tactic Idealize.ShloMosaic.ValueIdx
open scoped BigOperators

theorem mask_apply (v : IVec S32768x1 32) (g : BitVec 32) (R : Fin 32768) (d : Fin 7168) :
    mask v g (ix2 R d) = BitVec.ofBool (v (ix2 R (0 : Fin 1)) == g) := by
  unfold mask
  rw [column_at, shapeCast_self]
  rfl

theorem pick_apply (v : IVec S32768x1 32) (g : BitVec 32) (A prev : FVec Ideal S32768x7168 .f32) (R : Fin 32768) (d : Fin 7168) :
    pick v g A prev (ix2 R d) = if v (ix2 R (0 : Fin 1)) = g then A (ix2 R d) else prev (ix2 R d) := by
  show Scalar.select (mask v g (ix2 R d)) (A (ix2 R d)) (prev (ix2 R d)) = _
  rw [mask_apply]
  by_cases h : v (ix2 R (0 : Fin 1)) = g
  · rw [if_pos h, h, beq_self_eq_true]; rfl
  · rw [if_neg h, beq_eq_false_iff_ne.mpr h]; rfl

/-- A row whose word is one of the experts' holds that expert's values. -/
theorem picks_apply (v : IVec S32768x1 32) (A : Nat → FVec Ideal S32768x7168 .f32) (z : FVec Ideal S32768x7168 .f32) (R : Fin 32768) (d : Fin 7168)
    (e : Nat) (hv : v (ix2 R (0 : Fin 1)) = BitVec.ofNat 32 e) : ∀ n : Nat, e < n → n ≤ 16 → picks v A z n (ix2 R d) = A e (ix2 R d) := by
  intro n
  induction n with
  | zero => intro h; omega
  | succ n ih =>
    intro h1 h2
    refine (pick_apply v _ (A n) _ R d).trans ?_
    rw [hv]
    by_cases he : e = n
    · subst he; exact if_pos rfl
    · refine (if_neg fun h => he ?_).trans (ih (by omega) (by omega))
      have := congrArg BitVec.toNat h
      simp only [BitVec.toNat_ofNat] at this
      omega

theorem prod_apply (q : FVec Ideal S32768x1536 .fp8e5m2) (w : Vec Ideal S1x7168x1536 .fp8e4m3) (R : Fin 32768) (d : Fin 7168) :
    prod q w (ix2 R d) = (∑ k : Fin 1536, q (ix2 R k) * w (ix3 (0 : Fin 1) d k) : EReal) := by
  unfold prod
  refine (Ideal.matmul_transposedRhs_apply (φ₁ := .fp8e5m2) (φ₂ := .fp8e4m3) none _ _ _ R d).trans ?_
  rw [show (constant S32768x7168 .f32 0x00000000#32 : FVec Ideal S32768x7168 .f32) (ix2 R d) = 0 from Ideal.ofBits_zero_f32, zero_add]
  exact Finset.sum_congr rfl fun k _ => congrArg _ (shapeCast_1ab_ab_apply w _ d k)

theorem spread_apply (u : Vec Ideal S1x7168 .f32) (R : Fin 32768) (d : Fin 7168) : spread u (ix2 R d) = u (ix2 (0 : Fin 1) d) := by
  unfold spread
  rw [shapeCast_self, broadcastTo_1b_ab_apply, shapeCast_shapeCast]

theorem close_apply (p : FVec Ideal S32768x1 .f32) (a sc : FVec Ideal S32768x7168 .f32) (R : Fin 32768) (d : Fin 7168) :
    close p a sc (ix2 R d) = ((a (ix2 R d) * p (ix2 R (0 : Fin 1))) * sc (ix2 R d) : EReal) := by
  have h : close p a sc (ix2 R d) = ((a (ix2 R d) * broadcastTo S32768x7168 p broadcasts_S32768x1_S32768x7168 (ix2 R d)) * sc (ix2 R d) : EReal) := by
    generalize hD : broadcastTo S32768x7168 p broadcasts_S32768x1_S32768x7168 = D
    unfold close
    rw [hD]
    rfl
  rw [h, column_at]

theorem pay5_eq (x1 : Vec Ideal S32768x1 .i32) : k0_pay5 (F := Ideal) x1 = x1 := by
  unfold k0_pay5
  exact shapeCast_self x1 _

/-- A row of the result from the arrays the reference's body reads. -/
theorem out_apply (x0 : Vec Ideal S32768x1536 .bf16) (x1 : Vec Ideal S32768x1 .i32) (x2 : Vec Ideal S16x7168x1536 .fp8e4m3) (x3 : Vec Ideal S16x7168 .f32)
    (g : Fin 32768 → Fin 1536 → ℝ) (hg : ∀ R k, x0 (ix2 R k) = ((g R k : ℝ) : EReal)) (hb : ∀ R k, |g R k| ≤ big) (e : Fin 16) (R : Fin 32768) (d : Fin 7168)
    (hx : x1 (ix2 R (0 : Fin 1)) = BitVec.ofNat 32 e.val) :
    out0_4 (F := Ideal) x0 x1 x2 x3 (ix2 R d) = ((∑ k : Fin 1536, x0 (ix2 R k) * x2 (ix3 e d k)) * x3 (ix2 e d) : EReal) := by
  obtain ⟨p, hp, h3, h4⟩ := quantised x0 g hg hb R
  rw [out_eq, pay5_eq, close_apply, picks_apply x1 _ _ R d e.val hx 16 e.isLt (le_refl _), picks_apply x1 _ _ R d e.val hx 16 e.isLt (le_refl _),
    prod_apply, spread_apply, h3]
  have he : (Fin.ofNat 16 e.val : Fin 16) = e := Fin.ext (Nat.mod_eq_of_lt e.isLt)
  have hu : line x3 e.val (ix2 (0 : Fin 1) d) = x3 (ix2 e d) := by
    show x3 (ix2 (Fin.ofNat 16 e.val) d) = _
    rw [he]
  have hw : ∀ k, slab x2 e.val (ix3 (0 : Fin 1) d k) = x2 (ix3 e d k) := fun k => by
    show x2 (ix3 (Fin.ofNat 16 e.val) d k) = _
    rw [he]
  rw [hu]
  refine congrArg (fun t : EReal => t * x3 (ix2 e d)) ?_
  refine (congrArg (fun t : EReal => t * ((p : ℝ) : EReal)) (Finset.sum_congr rfl fun k _ => ?_)).trans (Cert.Quant.cancel (g R) (fun k => x2 (ix3 e d k)) hp |>.trans ?_)
  · rw [h4 k, hw k]
  · exact Finset.sum_congr rfl fun k _ => by rw [hg R k]

end Cert.ReferenceIdeal.Hand
-- ==== Proof.EndR.lean ====
/-
  The reference's output array after its run: the one grid point writes the whole array.
-/
module

public import proofs.«01_k».proof.Proof.ResR

@[expose] public section

set_option synthInstance.maxSize 4096
set_option maxRecDepth 16384

noncomputable section

namespace Cert.ReferenceIdeal.Hand

open Cert.ReferenceIdeal.Gen Cert.Items Cert.Quant
open Idealize.ShloMosaic Idealize.ShloMosaic.TcCoe Idealize.ShloMosaic.Tactic Idealize.ShloMosaic.ValueIdx
open scoped BigOperators

variable (m : (ℓ : Loc nD τ sig) → Buf (Elt Ideal) ℓ)

abbrev pt : Fin cfg0.N := ⟨0, by decide⟩

theorem index_zero0 (t : Fin cfg0.N) (a) : (cfg0.win 0).index t a = 0 := rfl
theorem index_zero1 (t : Fin cfg0.N) (a) : (cfg0.win 1).index t a = 0 := rfl
theorem index_zero2 (t : Fin cfg0.N) (a) : (cfg0.win 2).index t a = 0 := rfl
theorem index_zero3 (t : Fin cfg0.N) (a) : (cfg0.win 3).index t a = 0 := rfl
theorem index_zero4 (t : Fin cfg0.N) (a) : (cfg0.win 4).index t a = 0 := rfl

theorem emb0 (t : Fin cfg0.N) (y : S32768x1536.Idx) : ((cfg0.win 0).rect t).emb y = y :=
  funext fun a => Fin.ext ((Pipeline.Window.rect_emb_val (cfg0.win 0) t y a).trans (by rw [index_zero0, Nat.zero_mul, Nat.zero_add]))
theorem emb1 (t : Fin cfg0.N) (y : S32768x1.Idx) : ((cfg0.win 1).rect t).emb y = y :=
  funext fun a => Fin.ext ((Pipeline.Window.rect_emb_val (cfg0.win 1) t y a).trans (by rw [index_zero1, Nat.zero_mul, Nat.zero_add]))
theorem emb2 (t : Fin cfg0.N) (y : S16x7168x1536.Idx) : ((cfg0.win 2).rect t).emb y = y :=
  funext fun a => Fin.ext ((Pipeline.Window.rect_emb_val (cfg0.win 2) t y a).trans (by rw [index_zero2, Nat.zero_mul, Nat.zero_add]))
theorem emb3 (t : Fin cfg0.N) (y : S16x7168.Idx) : ((cfg0.win 3).rect t).emb y = y :=
  funext fun a => Fin.ext ((Pipeline.Window.rect_emb_val (cfg0.win 3) t y a).trans (by rw [index_zero3, Nat.zero_mul, Nat.zero_add]))
theorem emb4 (t : Fin cfg0.N) (y : S32768x7168.Idx) : ((cfg0.win 4).rect t).emb y = y :=
  funext fun a => Fin.ext ((Pipeline.Window.rect_emb_val (cfg0.win 4) t y a).trans (by rw [index_zero4, Nat.zero_mul, Nat.zero_add]))

theorem iblk0 (t : Fin cfg0.N) (y : S32768x1536.Idx) : iblk m 0 0 t y = V m 0 main_arg0 y :=
  congrArg (V m 0 main_arg0) (emb0 t y)
theorem iblk1 (t : Fin cfg0.N) (y : S32768x1.Idx) : iblk m 0 1 t y = V m 0 main_v9 y :=
  congrArg (V m 0 main_v9) (emb1 t y)
theorem iblk2 (t : Fin cfg0.N) (y : S16x7168x1536.Idx) : iblk m 0 2 t y = V m 0 main_arg2 y :=
  congrArg (V m 0 main_arg2) (emb2 t y)
theorem iblk3 (t : Fin cfg0.N) (y : S16x7168.Idx) : iblk m 0 3 t y = V m 0 main_arg3 y :=
  congrArg (V m 0 main_arg3) (emb3 t y)

theorem read4 (t : Fin cfg0.N) (A : Vec Ideal S32768x7168 .bf16) (y : S32768x7168.Idx) : ((cfg0.win 4).blk t).view.read (Elt Ideal) A y = A y :=
  congrArg A (emb4 t y)
theorem xinj4 (t : Fin cfg0.N) (y : S32768x7168.Idx) : (cfg0.win 4).xinj (grid0.coords t) y = y := funext fun a => Fin.ext rfl
theorem cut4 (t : Fin cfg0.N) (X : Vec Ideal S32768x7168 .bf16) (y : S32768x7168.Idx) : (cfg0.win 4).cut (grid0.coords t) X y = X y :=
  congrArg X (xinj4 t y)
theorem flush4 (t : Fin cfg0.N) : (cfg0.win 4).flush t = true := (by decide +kernel : ∀ t : Fin grid0.N, win0_4.flush t = true) t

theorem out_blk (t : Fin cfg0.N) (y : S32768x7168.Idx) :
    (dats m 0 0).arrAt 4 cfg0.N y = out0_4 (F := Ideal) (iblk m 0 0 t) (iblk m 0 1 t) (iblk m 0 2 t) (iblk m 0 3 t) y := by
  have h := congrFun (Cert.ReferenceIdeal.Value.blocks4 m 0 t (flush4 t)) y
  rw [Cert.ReferenceIdeal.Value.flushed4 m 0 t] at h
  exact (read4 t _ y).symm.trans (h.trans (cut4 t _ y))

variable (s : Nat → Nat) (hx : ∀ e : Fin 16, gs m (ix1 e) = BitVec.ofNat 32 (s e.val)) (hs : cum s 15 = 32768)
variable (g : Fin 32768 → Fin 1536 → ℝ) (hg : ∀ R k, (m ((0 : Dev nD), main_arg0) : Vec Ideal S32768x1536 .bf16) (ix2 R k) = ((g R k : ℝ) : EReal)) (hb : ∀ R k, |g R k| ≤ big)
include hx hs g hg hb

theorem ref_at (R : Fin 32768) (d : Fin 7168) :
    (dats m 0 0).arrAt 4 cfg0.N (ix2 R d) = Cert.Spec.val (m ((0 : Dev nD), main_arg0)) (m ((0 : Dev nD), main_arg2)) (m ((0 : Dev nD), main_arg3)) s R d := by
  rw [out_blk m pt]
  obtain ⟨t', ht, ht', h1, h2⟩ := covered s hs R.isLt
  have hc := owner s hs h1 h2
  have hl := expert_lt s hs t'
  have he : (Cert.Spec.own s R).val = Nat.count (fun q => cum s q ≤ R.val) 16 := by
    unfold Cert.Spec.own
    show _ % 16 = _
    rw [hc]; exact Nat.mod_eq_of_lt hl
  refine (out_apply _ _ _ _ g (fun R k => ?_) hb (Cert.Spec.own s R) R d ?_).trans ?_
  · rw [iblk0, V_main_arg0]; exact hg R k
  · rw [iblk1, he]; exact owner_at m s hx hs R
  · unfold Cert.Spec.val
    refine congrArg₂ (fun a b : EReal => a * b) (Finset.sum_congr rfl fun k _ => ?_) ?_
    · rw [iblk0, iblk2, V_main_arg0, V_main_arg2]
    · rw [iblk3, V_main_arg3]

end Cert.ReferenceIdeal.Hand
-- ==== Proof.Alg.lean ====
/-
  The kernel and the reference end with equal results over the extended reals.
-/
module

public import proofs.«01_k».proof.Defs
public import proofs.«01_k».proof.Proof.OutI
public import proofs.«01_k».proof.Proof.EndR
public import proofs.«01_k».proof.Proof.Sizes
public import proofs.«01_k».proof.Proof.Gen.KernelIdeal
public import proofs.«01_k».proof.Proof.Gen.ReferenceIdeal
public import proofs.«01_k».proof.Proof.Gen.Pre_sizes_fill_and_finite

@[expose] public section

noncomputable section

namespace Cert.Proof

open Idealize.ShloMosaic Idealize.ShloMosaic.TcCoe Idealize.SL.Sem Idealize.ShloMosaic.ValueIdx
open Cert.Items

/-- Values whose sizes are at most the greatest finite one are real numbers. -/
theorem finite (x : FVec Ideal Cert.Pre_sizes_fill_and_finite.S32768x1536 .bf16) (hb : Cert.Pre_sizes_fill_and_finite.S_.BroadcastsInDim Cert.Pre_sizes_fill_and_finite.S32768x1536 (![] : Fin 0 → Fin 2))
    (h : (cmpf (F := Ideal) (φ := .bf16) .ole (Host.absf (F := Ideal) (φ := .bf16) x) (broadcastInDim Cert.Pre_sizes_fill_and_finite.S32768x1536 ![] hb (constant Cert.Pre_sizes_fill_and_finite.S_ .bf16 0x7F7F#16 : FVec Ideal Cert.Pre_sizes_fill_and_finite.S_ .bf16))) = fun _ => 1#1) :
    ∃ g : Fin 32768 → Fin 1536 → ℝ, (∀ R k, x (ix2 R k) = ((g R k : ℝ) : EReal)) ∧ ∀ R k, |g R k| ≤ Cert.Quant.big := by
  have hat : ∀ R k, ∃ r : ℝ, x (ix2 R k) = ((r : ℝ) : EReal) ∧ |r| ≤ Cert.Quant.big := by
    intro R k
    have h0 := congrFun h (ix2 R k)
    have h1 : Ideal.cmp .ole (max (x (ix2 R k) : EReal) (-(x (ix2 R k) : EReal))) (Ideal.ofBits .bf16 0x7F7F#16) = 1#1 := h0
    rw [Cert.Quant.ofBits_big] at h1
    refine Cert.Quant.real_of_abs_le ?_
    by_contra hc
    have h2 : BitVec.ofBool (decide (max (x (ix2 R k) : EReal) (-(x (ix2 R k) : EReal)) ≤ ((Cert.Quant.big : ℝ) : EReal))) = 1#1 := h1
    rw [decide_eq_false hc] at h2
    exact absurd h2 (by decide)
  choose g h1 h2 using hat
  exact ⟨g, h1, h2⟩

/-- An array known at every row and column. -/
theorem array_eq (A : (⟨2, ![32768, 7168]⟩ : Shape).Idx → EReal) (f : Fin 32768 → Fin 7168 → EReal) (h : ∀ R d, A (ix2 R d) = f R d) :
    A = fun i => f (i 0) (i 1) := by
  funext i
  have hi : i = ix2 (i 0) (i 1) := funext fun a => by match a with | ⟨0, _⟩ => rfl | ⟨1, _⟩ => rfl
  exact (congrArg A hi).trans (h (i 0) (i 1))

theorem algebraic : algebraic_KernelIdeal_ReferenceIdeal_pre_sizes_fill_and_finite (hKernelIdeal := Cert.KernelIdeal.Gen.facts) (hReferenceIdeal := Cert.ReferenceIdeal.Gen.facts)
    (hPre_sizes_fill_and_finite := Cert.Pre_sizes_fill_and_finite.Gen.facts) := by
  intro m ρ m' ρ' hpre hargs
  obtain ⟨a0, a1, a2, a3⟩ := hargs 0
  obtain ⟨s, hx, hs⟩ := Cert.Sizes.sizes _ _ _ _ (hpre 0).1
  obtain ⟨g, hg, hb⟩ := finite _ _ (hpre 0).2
  have hO := Cert.KernelIdeal.Hand.ok_of m s hx hs
  refine ⟨fun _ => fun i : (⟨2, ![32768, 7168]⟩ : Shape).Idx => Cert.Spec.val (m ((0 : Dev Cert.KernelIdeal.nD), Cert.KernelIdeal.main_arg0)) (m ((0 : Dev Cert.KernelIdeal.nD), Cert.KernelIdeal.main_arg2)) (m ((0 : Dev Cert.KernelIdeal.nD), Cert.KernelIdeal.main_arg3)) s (i 0) (i 1), ?_, ?_⟩
  · refine (θ_run _ _ _).mono (fun r h c => ?_) (Cert.KernelIdeal.Hand.run_main m ρ hO)
    obtain rfl : c = 0 := Subsingleton.elim _ _
    refine ⟨?_, Cert.KernelIdeal.Hand.kept_args m hO r h.1 0⟩
    have hA := (h.1 0).1 3
    exact array_eq _ _ fun R d => Cert.KernelIdeal.Hand.out_at m hO s hx hs g hg hb _ hA R d
  · refine (θ_run _ _ _).mono (fun r h c => ?_) (Cert.ReferenceIdeal.Value.run_blocks m' ρ')
    obtain rfl : c = 0 := Subsingleton.elim _ _
    obtain ⟨h0, h1⟩ := h 0
    refine ⟨h0.trans ?_, h1⟩
    have hx' : ∀ e : Fin 16, Cert.ReferenceIdeal.Hand.gs m' (ix1 e) = BitVec.ofNat 32 (s e.val) := fun e => (congrFun a1 (ix1 e)).trans (hx e)
    have b0 : m' ((0 : Dev Cert.ReferenceIdeal.nD), Cert.ReferenceIdeal.main_arg0) = m ((0 : Dev Cert.KernelIdeal.nD), Cert.KernelIdeal.main_arg0) := a0
    have b2 : m' ((0 : Dev Cert.ReferenceIdeal.nD), Cert.ReferenceIdeal.main_arg2) = m ((0 : Dev Cert.KernelIdeal.nD), Cert.KernelIdeal.main_arg2) := a2
    have b3 : m' ((0 : Dev Cert.ReferenceIdeal.nD), Cert.ReferenceIdeal.main_arg3) = m ((0 : Dev Cert.KernelIdeal.nD), Cert.KernelIdeal.main_arg3) := a3
    refine array_eq _ _ fun R d => ?_
    refine (Cert.ReferenceIdeal.Hand.ref_at m' s hx' hs g (fun R k => (congrFun a0 (ix2 R k)).trans (hg R k)) hb R d).trans ?_
    rw [b0, b2, b3]

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_fill
public import proofs.«01_k».proof.Proof.Gen.Pre_sizes_fill_and_finite
public import proofs.«01_k».proof.Proof.RunK3
public import proofs.«01_k».proof.Proof.RunI3
public import proofs.«01_k».proof.Proof.HostK
public import proofs.«01_k».proof.Proof.HostI
public import proofs.«01_k».proof.Proof.Sizes
public import proofs.«01_k».proof.Proof.Alg
public import Idealize.ShloMosaic.Adequacy
public import Idealize.ShloMosaic.Init

@[expose] public section

noncomputable section

namespace Cert.Proof

open Idealize.ShloMosaic Idealize.SL.Sem Cert.Kernel

theorem frame_kernel : quiescent_Kernel (hKernel := Cert.Kernel.Gen.facts) (hPre_sizes_fill := Cert.Pre_sizes_fill.Gen.facts) := by
  intro m g h
  obtain ⟨s, hx, hs⟩ := Cert.Sizes.sizes _ _ _ _ (h 0)
  exact Cert.Kernel.Hand.frame m g (Cert.Kernel.Hand.ok_of m s hx hs)

theorem frame_ideal : quiescent_KernelIdeal (hKernelIdeal := Cert.KernelIdeal.Gen.facts) (hPre_sizes_fill := Cert.Pre_sizes_fill.Gen.facts) := by
  intro m g h
  obtain ⟨s, hx, hs⟩ := Cert.Sizes.sizes _ _ _ _ (h 0)
  exact Cert.KernelIdeal.Hand.frame m g (Cert.KernelIdeal.Hand.ok_of m s hx hs)

theorem frame_ideal_finite : quiescent_KernelIdeal_pre_sizes_fill_and_finite (hKernelIdeal := Cert.KernelIdeal.Gen.facts)
    (hPre_sizes_fill_and_finite := Cert.Pre_sizes_fill_and_finite.Gen.facts) := by
  intro m g h
  obtain ⟨s, hx, hs⟩ := Cert.Sizes.sizes _ _ _ _ (h 0).1
  exact Cert.KernelIdeal.Hand.frame m g (Cert.KernelIdeal.Hand.ok_of m s hx hs)

theorem claim : Cert.Claim := ⟨Cert.Kernel.Gen.facts, Cert.KernelIdeal.Gen.facts, Cert.ReferenceIdeal.Gen.facts, Cert.Pre_sizes_fill.Gen.facts, Cert.Pre_sizes_fill_and_finite.Gen.facts,
  frame_kernel, frame_ideal, frame_ideal_finite, fun m g _ => Cert.ReferenceIdeal.Gen.frame m g, fun m g _ => Cert.ReferenceIdeal.Gen.frame m g, trivial, algebraic⟩

end Cert.Proof

end
